-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S2x2x8x2x512 Cert.KernelIdeal.S2x2x8x1x512
  ∧ IdealRules.bf16_pair.Statement Cert.KernelIdeal.S16x512 Cert.KernelIdeal.S8x512
  ∧ IdealRules.bf16_pair.Statement Cert.KernelIdeal.S1x1x8x2x512 Cert.KernelIdeal.S1x1x8x1x512
  ∧ IdealRules.bf16_pair.Statement Cert.KernelIdeal.S1x1x1x2x512 Cert.KernelIdeal.S1x1x1x1x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x14336 : Shape := ⟨3, ![128, 1, 14336]⟩
abbrev S3584x8192 : Shape := ⟨2, ![3584, 8192]⟩
abbrev S896x8192 : Shape := ⟨2, ![896, 8192]⟩
abbrev S128x2x2x3584 : Shape := ⟨4, ![128, 2, 2, 3584]⟩
abbrev S128x2x3584x2 : Shape := ⟨4, ![128, 2, 3584, 2]⟩
abbrev S128x14336 : Shape := ⟨2, ![128, 14336]⟩
abbrev S128x8192 : Shape := ⟨2, ![128, 8192]⟩
abbrev S3584x512 : Shape := ⟨2, ![3584, 512]⟩
abbrev S896x512 : Shape := ⟨2, ![896, 512]⟩
abbrev S128x512 : Shape := ⟨2, ![128, 512]⟩
abbrev S2x2x8x512 : Shape := ⟨4, ![2, 2, 8, 512]⟩
abbrev S16x512 : Shape := ⟨2, ![16, 512]⟩
abbrev S8x512 : Shape := ⟨2, ![8, 512]⟩
abbrev S1x1x8x512 : Shape := ⟨4, ![1, 1, 8, 512]⟩
abbrev S256x512 : Shape := ⟨2, ![256, 512]⟩
abbrev S64x512 : Shape := ⟨2, ![64, 512]⟩
abbrev S64x1x512 : Shape := ⟨3, ![64, 1, 512]⟩
abbrev S64x8x512 : Shape := ⟨3, ![64, 8, 512]⟩
abbrev S512x512 : Shape := ⟨2, ![512, 512]⟩
abbrev S1x1x1x512 : Shape := ⟨4, ![1, 1, 1, 512]⟩
abbrev S1x512 : Shape := ⟨2, ![1, 512]⟩
abbrev S128x1x8192 : Shape := ⟨3, ![128, 1, 8192]⟩

abbrev nBuf : Space → Nat
  | .hbm => 9
  | .vmem => 12
  | .smem => 0
  | _ => 0

abbrev bufTy : (tb : Table) → Fin (tcTables nBuf tb) → BufTy
  | .hbm, ⟨0, _⟩ => ⟨S128x1x14336, .bf16⟩
  | .hbm, ⟨1, _⟩ => ⟨S3584x8192, .i8⟩
  | .hbm, ⟨2, _⟩ => ⟨S896x8192, .bf16⟩
  | .hbm, ⟨3, _⟩ => ⟨S896x8192, .bf16⟩
  | .hbm, ⟨4, _⟩ => ⟨S128x2x2x3584, .bf16⟩
  | .hbm, ⟨5, _⟩ => ⟨S128x2x3584x2, .bf16⟩
  | .hbm, ⟨6, _⟩ => ⟨S128x14336, .bf16⟩
  | .hbm, ⟨7, _⟩ => ⟨S128x8192, .bf16⟩
  | .hbm, ⟨8, _⟩ => ⟨S128x1x8192, .bf16⟩
  | .local _ .vmem, ⟨0, _⟩ => ⟨S128x14336, .bf16⟩
  | .local _ .vmem, ⟨1, _⟩ => ⟨S3584x512, .i8⟩
  | .local _ .vmem, ⟨2, _⟩ => ⟨S3584x512, .i8⟩
  | .local _ .vmem, ⟨3, _⟩ => ⟨S896x512, .bf16⟩
  | .local _ .vmem, ⟨4, _⟩ => ⟨S896x512, .bf16⟩
  | .local _ .vmem, ⟨5, _⟩ => ⟨S896x512, .bf16⟩
  | .local _ .vmem, ⟨6, _⟩ => ⟨S896x512, .bf16⟩
  | .local _ .vmem, ⟨7, _⟩ => ⟨S128x512, .bf16⟩
  | .local _ .vmem, ⟨8, _⟩ => ⟨S128x512, .bf16⟩
  | .local _ .vmem, ⟨9, _⟩ => ⟨S128x512, .f32⟩
  | .local _ .vmem, ⟨10, _⟩ => ⟨S2x2x8x512, .i32⟩
  | .local _ .vmem, ⟨11, _⟩ => ⟨S2x2x8x512, .i32⟩
  | _, _ => ⟨S128x1x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32 : BitVec 32 := 0#32
  let c14_i32 : BitVec 32 := 14#32
  let v4 : BitVec 32 := Scalar.addi c0_i32 c14_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32 : BitVec 32 := 16#32
  let v8 : BitVec 32 := Scalar.muli arg9 c16_i32
  v8
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v10 : BitVec 32 := Scalar.muli arg9 c256_i32
  v10
def k0_off1 (k0_t1 : Fin k0_t1_loop.trips) (c0_i32_6 : BitVec 32) : Fin 2 → Nat :=
  let c0_i32 : BitVec 32 := 0#32
  let c1_i32 : BitVec 32 := 1#32
  let arg9 : BitVec 32 := Scf.iv c0_i32 c1_i32 k0_t1
  let c16_i32 : BitVec 32 := 16#32
  let v8 : BitVec 32 := Scalar.muli arg9 c16_i32
  let v9 : BitVec 32 := v8
  let v12 : BitVec 32 := Scalar.addi c0_i32_6 v9
  let v13 : Index := Scalar.indexCast v12
  let c0_7 : Index := 0#32
  ![v13.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v10 : BitVec 32 := Scalar.muli arg9 c256_i32
  let v11 : BitVec 32 := v10
  let v124 : Index := Scalar.indexCast v11
  let c0_73 : Index := 0#32
  ![v124.toNat, 0]
def k0_mult3 (k0_t1 : Fin k0_t1_loop.trips) : BitVec 32 :=
  let c0_i32_199 : BitVec 32 := 0#32
  let c0_i32 : BitVec 32 := 0#32
  let c1_i32 : BitVec 32 := 1#32
  let arg9 : BitVec 32 := Scf.iv c0_i32 c1_i32 k0_t1
  let c256_i32 : BitVec 32 := 256#32
  let v10 : BitVec 32 := Scalar.muli arg9 c256_i32
  let v11 : BitVec 32 := v10
  let v368 : BitVec 32 := Scalar.addi c0_i32_199 v11
  let c2_i32 : BitVec 32 := 2#32
  let v369 : BitVec 32 := Scalar.muli v368 c2_i32
  v369
def k0_off3 (k0_t1 : Fin k0_t1_loop.trips) (c0_i32_199 : BitVec 32) : Fin 2 → Nat :=
  let c0_200 : Index := 0#32
  let c0_i32 : BitVec 32 := 0#32
  let c1_i32 : BitVec 32 := 1#32
  let arg9 : BitVec 32 := Scf.iv c0_i32 c1_i32 k0_t1
  let c256_i32 : BitVec 32 := 256#32
  let v10 : BitVec 32 := Scalar.muli arg9 c256_i32
  let v11 : BitVec 32 := v10
  let v368 : BitVec 32 := Scalar.addi c0_i32_199 v11
  let c2_i32 : BitVec 32 := 2#32
  let v369 : BitVec 32 := Scalar.muli v368 c2_i32
  let v370 : BitVec 32 := v369
  let v371 : Index := Scalar.indexCast v370
  ![0, v371.toNat]
def k0_mult4 (k0_t1 : Fin k0_t1_loop.trips) : BitVec 32 :=
  let c3584_i32 : BitVec 32 := 3584#32
  let c0_i32 : BitVec 32 := 0#32
  let c1_i32 : BitVec 32 := 1#32
  let arg9 : BitVec 32 := Scf.iv c0_i32 c1_i32 k0_t1
  let c256_i32 : BitVec 32 := 256#32
  let v10 : BitVec 32 := Scalar.muli arg9 c256_i32
  let v11 : BitVec 32 := v10
  let v618 : BitVec 32 := Scalar.addi c3584_i32 v11
  let c2_i32_335 : BitVec 32 := 2#32
  let v619 : BitVec 32 := Scalar.muli v618 c2_i32_335
  v619
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S896x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S896x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S2x2x8x2x512 : Shape := ⟨5, ![2, 2, 8, 2, 512]⟩
abbrev S2x2x8x1x512 : Shape := ⟨5, ![2, 2, 8, 1, 512]⟩
abbrev S1x1x8x2x512 : Shape := ⟨5, ![1, 1, 8, 2, 512]⟩
abbrev S1x1x8x1x512 : Shape := ⟨5, ![1, 1, 8, 1, 512]⟩
abbrev S1x1x1x2x512 : Shape := ⟨5, ![1, 1, 1, 2, 512]⟩
abbrev S1x1x1x1x512 : Shape := ⟨5, ![1, 1, 1, 1, 512]⟩
  | .local _ .vmem, ⟨10, _⟩ => ⟨S2x2x8x2x512, .bf16⟩
  | .local _ .vmem, ⟨11, _⟩ => ⟨S2x2x8x2x512, .bf16⟩
variable {F : FTy → Type} [FloatOps F]
-- ==== ReferenceIdeal.lean ====
abbrev S128x1x14336 : Shape := ⟨3, ![128, 1, 14336]⟩
abbrev S3584x8192 : Shape := ⟨2, ![3584, 8192]⟩
abbrev S896x8192 : Shape := ⟨2, ![896, 8192]⟩
abbrev S_ : Shape := ⟨0, ![]⟩
abbrev S224x8192 : Shape := ⟨2, ![224, 8192]⟩
abbrev S224x16x8192 : Shape := ⟨3, ![224, 16, 8192]⟩
abbrev S128x1x3584 : Shape := ⟨3, ![128, 1, 3584]⟩
abbrev S128x1x8192 : Shape := ⟨3, ![128, 1, 8192]⟩

abbrev nBuf : Space → Nat
  | .hbm => 80
  | .vmem => 0
  | .smem => 0
  | _ => 0

abbrev bufTy : (tb : Table) → Fin (tcTables nBuf tb) → BufTy
  | .hbm, ⟨0, _⟩ => ⟨S128x1x14336, .bf16⟩
  | .hbm, ⟨1, _⟩ => ⟨S3584x8192, .i8⟩
  | .hbm, ⟨2, _⟩ => ⟨S896x8192, .bf16⟩
  | .hbm, ⟨3, _⟩ => ⟨S896x8192, .bf16⟩
  | .hbm, ⟨4, _⟩ => ⟨S3584x8192, .i32⟩
  | .hbm, ⟨5, _⟩ => ⟨S_, .i32⟩
  | .hbm, ⟨6, _⟩ => ⟨S3584x8192, .i32⟩
  | .hbm, ⟨7, _⟩ => ⟨S3584x8192, .i32⟩
  | .hbm, ⟨8, _⟩ => ⟨S_, .i32⟩
  | .hbm, ⟨9, _⟩ => ⟨S3584x8192, .i32⟩
  | .hbm, ⟨10, _⟩ => ⟨S3584x8192, .i32⟩
  | .hbm, ⟨11, _⟩ => ⟨S3584x8192, .bf16⟩
  | .hbm, ⟨12, _⟩ => ⟨S224x8192, .bf16⟩
  | .hbm, ⟨13, _⟩ => ⟨S224x16x8192, .bf16⟩
  | .hbm, ⟨14, _⟩ => ⟨S3584x8192, .bf16⟩
  | .hbm, ⟨15, _⟩ => ⟨S224x8192, .bf16⟩
  | .hbm, ⟨16, _⟩ => ⟨S224x16x8192, .bf16⟩
  | .hbm, ⟨17, _⟩ => ⟨S3584x8192, .bf16⟩
  | .hbm, ⟨18, _⟩ => ⟨S3584x8192, .bf16⟩
  | .hbm, ⟨19, _⟩ => ⟨S3584x8192, .bf16⟩
  | .hbm, ⟨20, _⟩ => ⟨S128x1x3584, .bf16⟩
  | .hbm, ⟨21, _⟩ => ⟨S128x1x8192, .f32⟩
  | .hbm, ⟨22, _⟩ => ⟨S3584x8192, .i32⟩
  | .hbm, ⟨23, _⟩ => ⟨S_, .i32⟩
  | .hbm, ⟨24, _⟩ => ⟨S3584x8192, .i32⟩
  | .hbm, ⟨25, _⟩ => ⟨S3584x8192, .i32⟩
  | .hbm, ⟨26, _⟩ => ⟨S_, .i32⟩
  | .hbm, ⟨27, _⟩ => ⟨S3584x8192, .i32⟩
  | .hbm, ⟨28, _⟩ => ⟨S3584x8192, .i32⟩
  | .hbm, ⟨29, _⟩ => ⟨S3584x8192, .bf16⟩
  | .hbm, ⟨30, _⟩ => ⟨S224x8192, .bf16⟩
  | .hbm, ⟨31, _⟩ => ⟨S224x16x8192, .bf16⟩
  | .hbm, ⟨32, _⟩ => ⟨S3584x8192, .bf16⟩
  | .hbm, ⟨33, _⟩ => ⟨S224x8192, .bf16⟩
  | .hbm, ⟨34, _⟩ => ⟨S224x16x8192, .bf16⟩
  | .hbm, ⟨35, _⟩ => ⟨S3584x8192, .bf16⟩
  | .hbm, ⟨36, _⟩ => ⟨S3584x8192, .bf16⟩
  | .hbm, ⟨37, _⟩ => ⟨S3584x8192, .bf16⟩
  | .hbm, ⟨38, _⟩ => ⟨S128x1x3584, .bf16⟩
  | .hbm, ⟨39, _⟩ => ⟨S128x1x8192, .f32⟩
  | .hbm, ⟨40, _⟩ => ⟨S3584x8192, .i32⟩
  | .hbm, ⟨41, _⟩ => ⟨S_, .i32⟩
  | .hbm, ⟨42, _⟩ => ⟨S3584x8192, .i32⟩
  | .hbm, ⟨43, _⟩ => ⟨S3584x8192, .i32⟩
  | .hbm, ⟨44, _⟩ => ⟨S_, .i32⟩
  | .hbm, ⟨45, _⟩ => ⟨S3584x8192, .i32⟩
  | .hbm, ⟨46, _⟩ => ⟨S3584x8192, .i32⟩
  | .hbm, ⟨47, _⟩ => ⟨S3584x8192, .bf16⟩
  | .hbm, ⟨48, _⟩ => ⟨S224x8192, .bf16⟩
  | .hbm, ⟨49, _⟩ => ⟨S224x16x8192, .bf16⟩
  | .hbm, ⟨50, _⟩ => ⟨S3584x8192, .bf16⟩
  | .hbm, ⟨51, _⟩ => ⟨S224x8192, .bf16⟩
  | .hbm, ⟨52, _⟩ => ⟨S224x16x8192, .bf16⟩
  | .hbm, ⟨53, _⟩ => ⟨S3584x8192, .bf16⟩
  | .hbm, ⟨54, _⟩ => ⟨S3584x8192, .bf16⟩
  | .hbm, ⟨55, _⟩ => ⟨S3584x8192, .bf16⟩
  | .hbm, ⟨56, _⟩ => ⟨S128x1x3584, .bf16⟩
  | .hbm, ⟨57, _⟩ => ⟨S128x1x8192, .f32⟩
  | .hbm, ⟨58, _⟩ => ⟨S3584x8192, .i32⟩
  | .hbm, ⟨59, _⟩ => ⟨S_, .i32⟩
  | .hbm, ⟨60, _⟩ => ⟨S3584x8192, .i32⟩
  | .hbm, ⟨61, _⟩ => ⟨S3584x8192, .i32⟩
  | .hbm, ⟨62, _⟩ => ⟨S_, .i32⟩
  | .hbm, ⟨63, _⟩ => ⟨S3584x8192, .i32⟩
  | .hbm, ⟨64, _⟩ => ⟨S3584x8192, .i32⟩
  | .hbm, ⟨65, _⟩ => ⟨S3584x8192, .bf16⟩
  | .hbm, ⟨66, _⟩ => ⟨S224x8192, .bf16⟩
  | .hbm, ⟨67, _⟩ => ⟨S224x16x8192, .bf16⟩
  | .hbm, ⟨68, _⟩ => ⟨S3584x8192, .bf16⟩
  | .hbm, ⟨69, _⟩ => ⟨S224x8192, .bf16⟩
  | .hbm, ⟨70, _⟩ => ⟨S224x16x8192, .bf16⟩
  | .hbm, ⟨71, _⟩ => ⟨S3584x8192, .bf16⟩
  | .hbm, ⟨72, _⟩ => ⟨S3584x8192, .bf16⟩
  | .hbm, ⟨73, _⟩ => ⟨S3584x8192, .bf16⟩
  | .hbm, ⟨74, _⟩ => ⟨S128x1x3584, .bf16⟩
  | .hbm, ⟨75, _⟩ => ⟨S128x1x8192, .f32⟩
  | .hbm, ⟨76, _⟩ => ⟨S128x1x8192, .f32⟩
  | .hbm, ⟨77, _⟩ => ⟨S128x1x8192, .f32⟩
  | .hbm, ⟨78, _⟩ => ⟨S128x1x8192, .f32⟩
  | .hbm, ⟨79, _⟩ => ⟨S128x1x8192, .bf16⟩
  | _, _ => ⟨S128x1x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_c_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_5 : Ref sig .tc := ⟨.hbm, 59, rfl⟩
abbrev main_v49 : Ref sig .tc := ⟨.hbm, 60, rfl⟩
abbrev main_v50 : Ref sig .tc := ⟨.hbm, 61, rfl⟩
abbrev main_c_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩

abbrev nD : Nat := 1
abbrev τ : Topo := Topo.v7x

variable {F : FTy → Type} [FloatOps F]
-- ==== Proof.KernelFrame.lean ====
/-
  The frame of the kernel as compiled: from any memory whose counters are zero it runs to its end, its four arguments
  end as they began and every counter is zero again.

  One grid point computes one block of 512 output columns. Its body zeroes the accumulator, then per trip of its loop
  unpacks 256 byte rows and adds two products to the accumulator, and stores the accumulator into the output block. The
  frame reads none of these values, so the output block is forgotten here, and the three scratch buffers are held at
  some contents between points.
-/
module

public import proofs.«01_k».proof.Proof.Gen.Kernel.Frame
public import proofs.«01_k».proof.Proof.Gen.Kernel.Loops

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The three scratch buffers, whole: the accumulator, the scale words and the minimum words. -/
abbrev accM : Memref sig .tc .vmem S128x512 .f32 := Memref.whole cc0_scratch0
abbrev sclM : Memref sig .tc .vmem S2x2x8x512 .i32 := Memref.whole cc0_scratch1
abbrev minM : Memref sig .tc .vmem S2x2x8x512 .i32 := Memref.whole cc0_scratch2

/-! ## The body, run once -/

/-- The body's triple, for any continuation: from the inputs' staging buffers at any contents and the output's and the
    scratch buffers at anything, the body runs to its return and hands every buffer back, the inputs' unchanged. -/
theorem kernelRun (c : Dev nD) (i : grid0.Coords)
    (arg1 : Memref sig .tc .vmem S128x14336 .bf16) (harg1 : arg1.IsWhole)
    (arg2 : Memref sig .tc .vmem S3584x512 .i8) (harg2 : arg2.IsWhole)
    (arg3 : Memref sig .tc .vmem S896x512 .bf16) (harg3 : arg3.IsWhole)
    (arg4 : Memref sig .tc .vmem S896x512 .bf16) (harg4 : arg4.IsWhole)
    (arg5 : Memref sig .tc .vmem S128x512 .bf16) (harg5 : arg5.IsWhole)
    (X1 : S128x14336.Idx → Elt F .bf16) (X2 : S3584x512.Idx → Elt F .i8) (X3 X4 : S896x512.Idx → Elt F .bf16)
    (K : PUnit → sProp 𝕄) :
    iprop(owns (c : Thread nD τ) arg1 fullShare X1 ∗ owns (c : Thread nD τ) arg2 fullShare X2
        ∗ owns (c : Thread nD τ) arg3 fullShare X3 ∗ owns (c : Thread nD τ) arg4 fullShare X4
        ∗ (∃ d, owns (c : Thread nD τ) arg5 fullShare d)
        ∗ (∃ d, owns (c : Thread nD τ) accM fullShare d) ∗ (∃ d, owns (c : Thread nD τ) sclM fullShare d)
        ∗ (∃ d, owns (c : Thread nD τ) minM fullShare d)
        ∗ (iprop(owns (c : Thread nD τ) arg1 fullShare X1 ∗ owns (c : Thread nD τ) arg2 fullShare X2
              ∗ owns (c : Thread nD τ) arg3 fullShare X3 ∗ owns (c : Thread nD τ) arg4 fullShare X4
              ∗ (∃ d, owns (c : Thread nD τ) arg5 fullShare d)
              ∗ (∃ d, owns (c : Thread nD τ) accM fullShare d) ∗ (∃ d, owns (c : Thread nD τ) sclM fullShare d)
              ∗ (∃ d, owns (c : Thread nD τ) minM fullShare d)) -∗ K ⟨⟩))
      ⊢ wp frame (wpE (defs₀ (F := F)) Variants.none c none) Set.univ
          (cc0_w2a16 i arg1 harg1 arg2 harg2 arg3 harg3 arg4 harg4 arg5 harg5 accM (Memref.isWhole_whole _)
            sclM (Memref.isWhole_whole _) minM (Memref.isWhole_whole _)) K := by
  simp only [cc0_w2a16_eq_skeleton]; unfold cc0_w2a16_skel
  unfold owns
  iintro ⟨⟨%f1, %h1, H1⟩, ⟨%f2, %h2, H2⟩, ⟨%f3, %h3, H3⟩, ⟨%f4, %h4, H4⟩, ⟨%d5, %f5, -, H5⟩, ⟨%d6, %f6, -, H6⟩,
    ⟨%d7, %f7, -, H7⟩, ⟨%d8, %f8, -, H8⟩, Hk⟩
  sl_exec
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

/-! ## The proof data and the body obligation -/

/-- The output window is forgotten: the frame does not read it. -/
def forgets : Fin 5 → Bool := fun | 4 => true | _ => false

/-- The proof data on core `c`: the arrays as the region finds them; each input window left at its block; the scratch
    buffers and the generator register at something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d

/-- The invariant between points, conjunct by conjunct. -/
theorem Phi_eq (c : Dev nD) :
    (Pipeline.ΦA spec0 c : sProp 𝕄)
      = iprop(iprop((∃ d, owns (c : Thread nD τ) accM fullShare d) ∗ (∃ d, owns (c : Thread nD τ) sclM fullShare d)
          ∗ (∃ d, owns (c : Thread nD τ) minM fullShare d)) ∗ (∃ r, prngReg c r)) := by
  unfold Pipeline.ΦA; rw [scopedRest0_eq]; simp only [accM, sclM, minM, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))

/-- What the body returns at point `t`. -/
def bodyPost (c : Dev nD) (t : Fin cfg0.N) : sProp 𝕄 :=
  iprop((dats m 0 c).Φ t.castSucc ∗ (dats m 0 c).owesAt () t.castSucc
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ (∃ d, owns (c : Thread nD τ) (st0_4 t) fullShare d))

/-- The body at the point: the invariant opened, the body's run, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.castSucc = Pipeline.ΦA spec0 c from rfl, Phi_eq]
  iintro ⟨⟨⟨H6, H7, H8⟩, Hg⟩, HO, ⟨%_, H1⟩, ⟨%_, H2⟩, ⟨%_, H3⟩, ⟨%_, H4⟩, H5⟩
  iapply (kernelRun c (grid0.coords t) _ _ _ _ _ _ _ _ _ _ (iblk m c 0 t) (iblk m c 1 t) (iblk m c 2 t) (iblk m c 3 t) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  isplitl [H6 H7 H8 Hg]
  · isplitl [H6 H7 H8]
    · isplitl [H6]; · iexact H6
      isplitl [H7]; · iexact H7
      iexact H8
    iexact Hg
  isplitl [HO]; · iexact HO
  isplitl [H1]; · iexact H1
  isplitl [H2]; · iexact H2
  isplitl [H3]; · iexact H3
  isplitl [H4]; · iexact H4
  iexact H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-! ## The launch -/

/-- The lines after the region write the reshaped result and nothing else. -/
theorem sfx_writes : ∀ ops ∈ [hostOps1 (F := F)], ∀ op ∈ ops, ∀ b : Ref sig .tc,
    Proc.devRef .tc b ∈ op.writes → b ∈ ({main_v4} : Finset (Ref sig .tc)) := by
  intro ops hops op hop
  simp only [List.mem_cons, List.mem_nil_iff, or_false] at hops
  rcases hops with rfl
  simp only [hostOps1, List.mem_cons, List.mem_nil_iff, or_false] at hop
  rcases hop with rfl
  intro b hb
  rw [StableHlo.reshape_writes, Finset.mem_singleton] at hb
  exact Finset.mem_singleton.mpr (Proc.devRef_injective .tc hb)

-- the implicit arguments are found by unifying the conclusion with this statement, which unifies only when unification
-- may unfold plain definitions in a metavariable's type
set_option backward.isDefEq.respectTransparency.types false in
/-- Every weakly fair execution terminates, with every array but the result's as the region found it and every counter at
    zero. -/
theorem run_main :
    θ_run defs (onTc (τ := τ) (main (F := F))) (s₀ m ρ)
      (fun r => Pipeline.RDat.FramePostR (cfgs 0) (fun c => (dats m 0 c).toRForget forgets) {main_v4} (V m) r
        ∧ r.2.sem = fun _ => 0) :=
  Pipeline.θ_run_frame_around_T_forget (Q' := _) cfgs (dats m) (0 : Fin 1) launch0 defs₀ Variants.none forgets {main_v4} m ρ main
    (hbody := fun c => (body_obligation m c).loose) (hshare := fun c => (dats m 0 c).share_full fun _ => rfl)
    (howed := fun _ _ => rfl) (V₀ := V0 m) (opss := [hostOps1]) sfx_sub sfx_fresh sfx_keeps sfx_writes
    (hmain m Variants.none) (A_eq m) (hΦ := fun _ _ => rfl)

/-! ## The four arguments afterwards -/

/-- Every weakly fair execution terminates with the four arguments as they were and every counter at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (by decide)).trans (V_main_arg0 m c),
     ((h.1.arr_in c 1 rfl).trans (A_eq m c 1)).trans (V_main_arg1 m c),
     ((h.1.arr_in c 2 rfl).trans (A_eq m c 2)).trans (V_main_arg2 m c),
     ((h.1.arr_in c 3 rfl).trans (A_eq m c 3)).trans (V_main_arg3 m c)⟩, h.2⟩) (run_main m ρ)

end Cert.Kernel.Hand

end
-- ==== Proof.KernelIdealFrame.lean ====
/-
  The frame of the idealized kernel: from any memory whose counters are zero it runs to its end, its four arguments
  end as they began and every counter is zero again.

  One grid point computes one block of 512 output columns. Its body zeroes the accumulator, then per trip of its loop
  unpacks 256 byte rows and adds two products to the accumulator, and stores the accumulator into the output block. The
  frame reads none of these values, so the output block is forgotten here, and the three scratch buffers are held at
  some contents between points.
-/
module

public import proofs.«01_k».proof.Proof.Gen.KernelIdeal.Frame
public import proofs.«01_k».proof.Proof.Gen.KernelIdeal.Loops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The three scratch buffers, whole: the accumulator, the scale words and the minimum words. -/
abbrev accM : Memref sig .tc .vmem S128x512 .f32 := Memref.whole cc0_scratch0
abbrev sclM : Memref sig .tc .vmem S2x2x8x2x512 .bf16 := Memref.whole cc0_scratch1
abbrev minM : Memref sig .tc .vmem S2x2x8x2x512 .bf16 := Memref.whole cc0_scratch2

/-! ## The body, run once -/

/-- The body's triple, for any continuation: from the inputs' staging buffers at any contents and the output's and the
    scratch buffers at anything, the body runs to its return and hands every buffer back, the inputs' unchanged. -/
theorem kernelRun (c : Dev nD) (i : grid0.Coords)
    (arg1 : Memref sig .tc .vmem S128x14336 .bf16) (harg1 : arg1.IsWhole)
    (arg2 : Memref sig .tc .vmem S3584x512 .i8) (harg2 : arg2.IsWhole)
    (arg3 : Memref sig .tc .vmem S896x512 .bf16) (harg3 : arg3.IsWhole)
    (arg4 : Memref sig .tc .vmem S896x512 .bf16) (harg4 : arg4.IsWhole)
    (arg5 : Memref sig .tc .vmem S128x512 .bf16) (harg5 : arg5.IsWhole)
    (X1 : S128x14336.Idx → Elt F .bf16) (X2 : S3584x512.Idx → Elt F .i8) (X3 X4 : S896x512.Idx → Elt F .bf16)
    (K : PUnit → sProp 𝕄) :
    iprop(owns (c : Thread nD τ) arg1 fullShare X1 ∗ owns (c : Thread nD τ) arg2 fullShare X2
        ∗ owns (c : Thread nD τ) arg3 fullShare X3 ∗ owns (c : Thread nD τ) arg4 fullShare X4
        ∗ (∃ d, owns (c : Thread nD τ) arg5 fullShare d)
        ∗ (∃ d, owns (c : Thread nD τ) accM fullShare d) ∗ (∃ d, owns (c : Thread nD τ) sclM fullShare d)
        ∗ (∃ d, owns (c : Thread nD τ) minM fullShare d)
        ∗ (iprop(owns (c : Thread nD τ) arg1 fullShare X1 ∗ owns (c : Thread nD τ) arg2 fullShare X2
              ∗ owns (c : Thread nD τ) arg3 fullShare X3 ∗ owns (c : Thread nD τ) arg4 fullShare X4
              ∗ (∃ d, owns (c : Thread nD τ) arg5 fullShare d)
              ∗ (∃ d, owns (c : Thread nD τ) accM fullShare d) ∗ (∃ d, owns (c : Thread nD τ) sclM fullShare d)
              ∗ (∃ d, owns (c : Thread nD τ) minM fullShare d)) -∗ K ⟨⟩))
      ⊢ wp frame (wpE (defs₀ (F := F)) Variants.none c none) Set.univ
          (cc0_w2a16 i arg1 harg1 arg2 harg2 arg3 harg3 arg4 harg4 arg5 harg5 accM (Memref.isWhole_whole _)
            sclM (Memref.isWhole_whole _) minM (Memref.isWhole_whole _)) K := by
  simp only [cc0_w2a16_eq_skeleton]; unfold cc0_w2a16_skel
  unfold owns
  iintro ⟨⟨%f1, %h1, H1⟩, ⟨%f2, %h2, H2⟩, ⟨%f3, %h3, H3⟩, ⟨%f4, %h4, H4⟩, ⟨%d5, %f5, -, H5⟩, ⟨%d6, %f6, -, H6⟩,
    ⟨%d7, %f7, -, H7⟩, ⟨%d8, %f8, -, H8⟩, Hk⟩
  sl_exec
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

/-! ## The proof data and the body obligation -/

/-- The output window is forgotten: the frame does not read it. -/
def forgets : Fin 5 → Bool := fun | 4 => true | _ => false

/-- The proof data on core `c`: the arrays as the region finds them; each input window left at its block; the scratch
    buffers and the generator register at something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d

/-- The invariant between points, conjunct by conjunct. -/
theorem Phi_eq (c : Dev nD) :
    (Pipeline.ΦA spec0 c : sProp 𝕄)
      = iprop(iprop((∃ d, owns (c : Thread nD τ) accM fullShare d) ∗ (∃ d, owns (c : Thread nD τ) sclM fullShare d)
          ∗ (∃ d, owns (c : Thread nD τ) minM fullShare d)) ∗ (∃ r, prngReg c r)) := by
  unfold Pipeline.ΦA; rw [scopedRest0_eq]; simp only [accM, sclM, minM, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))

/-- What the body returns at point `t`. -/
def bodyPost (c : Dev nD) (t : Fin cfg0.N) : sProp 𝕄 :=
  iprop((dats m 0 c).Φ t.castSucc ∗ (dats m 0 c).owesAt () t.castSucc
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ (∃ d, owns (c : Thread nD τ) (st0_4 t) fullShare d))

/-- The body at the point: the invariant opened, the body's run, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.castSucc = Pipeline.ΦA spec0 c from rfl, Phi_eq]
  iintro ⟨⟨⟨H6, H7, H8⟩, Hg⟩, HO, ⟨%_, H1⟩, ⟨%_, H2⟩, ⟨%_, H3⟩, ⟨%_, H4⟩, H5⟩
  iapply (kernelRun c (grid0.coords t) _ _ _ _ _ _ _ _ _ _ (iblk m c 0 t) (iblk m c 1 t) (iblk m c 2 t) (iblk m c 3 t) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  isplitl [H6 H7 H8 Hg]
  · isplitl [H6 H7 H8]
    · isplitl [H6]; · iexact H6
      isplitl [H7]; · iexact H7
      iexact H8
    iexact Hg
  isplitl [HO]; · iexact HO
  isplitl [H1]; · iexact H1
  isplitl [H2]; · iexact H2
  isplitl [H3]; · iexact H3
  isplitl [H4]; · iexact H4
  iexact H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-! ## The launch -/

/-- The lines after the region write the reshaped result and nothing else. -/
theorem sfx_writes : ∀ ops ∈ [hostOps1 (F := F)], ∀ op ∈ ops, ∀ b : Ref sig .tc,
    Proc.devRef .tc b ∈ op.writes → b ∈ ({main_v4} : Finset (Ref sig .tc)) := by
  intro ops hops op hop
  simp only [List.mem_cons, List.mem_nil_iff, or_false] at hops
  rcases hops with rfl
  simp only [hostOps1, List.mem_cons, List.mem_nil_iff, or_false] at hop
  rcases hop with rfl
  intro b hb
  rw [StableHlo.reshape_writes, Finset.mem_singleton] at hb
  exact Finset.mem_singleton.mpr (Proc.devRef_injective .tc hb)

-- the implicit arguments are found by unifying the conclusion with this statement, which unifies only when unification
-- may unfold plain definitions in a metavariable's type
set_option backward.isDefEq.respectTransparency.types false in
/-- Every weakly fair execution terminates, with every array but the result's as the region found it and every counter at
    zero. -/
theorem run_main :
    θ_run defs (onTc (τ := τ) (main (F := F))) (s₀ m ρ)
      (fun r => Pipeline.RDat.FramePostR (cfgs 0) (fun c => (dats m 0 c).toRForget forgets) {main_v4} (V m) r
        ∧ r.2.sem = fun _ => 0) :=
  Pipeline.θ_run_frame_around_T_forget (Q' := _) cfgs (dats m) (0 : Fin 1) launch0 defs₀ Variants.none forgets {main_v4} m ρ main
    (hbody := fun c => (body_obligation m c).loose) (hshare := fun c => (dats m 0 c).share_full fun _ => rfl)
    (howed := fun _ _ => rfl) (V₀ := V0 m) (opss := [hostOps1]) sfx_sub sfx_fresh sfx_keeps sfx_writes
    (hmain m Variants.none) (A_eq m) (hΦ := fun _ _ => rfl)

/-! ## The four arguments afterwards -/

/-- Every weakly fair execution terminates with the four arguments as they were and every counter at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (by decide)).trans (V_main_arg0 m c),
     ((h.1.arr_in c 1 rfl).trans (A_eq m c 1)).trans (V_main_arg1 m c),
     ((h.1.arr_in c 2 rfl).trans (A_eq m c 2)).trans (V_main_arg2 m c),
     ((h.1.arr_in c 3 rfl).trans (A_eq m c 3)).trans (V_main_arg3 m c)⟩, h.2⟩) (run_main m ρ)

end Cert.KernelIdeal.Hand

end
-- ==== Proof.Claims.lean ====
/-
  The frames of the three programs, and the claim that the idealized kernel is the kernel with each packed pair of bf16
  numbers read as the two numbers it holds.
-/
module

public import proofs.«01_k».proof.Defs
public import proofs.«01_k».proof.Proof.KernelFrame
public import proofs.«01_k».proof.Proof.KernelIdealFrame
public import proofs.«01_k».proof.Proof.Gen.ReferenceIdeal.Run
public import Idealize.ShloMosaic.Lib.Bf16PairInverse
public import Idealize.ShloMosaic.Lib.Quiescent

@[expose] public section

noncomputable section

open Idealize.ShloMosaic Idealize.SL.Sem

namespace Cert.Proof

theorem frame_p : Cert.quiescent_Kernel := fun m ρ _ => Cert.Kernel.Hand.frame m ρ

theorem frame_pi : Cert.quiescent_KernelIdeal := fun m ρ _ => Cert.KernelIdeal.Hand.frame m ρ

theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two word buffers read as buffers of pairs, and at each access and each change of type the two rows of a word. -/
theorem preserves : Cert.preserves_Kernel_KernelIdeal :=
  open Cert.KernelIdeal IdealRules.bf16_pair in
  ⟨bufferStatement S2x2x8x2x512 S2x2x8x1x512, statement S16x512 S8x512, statement S1x1x8x2x512 S1x1x8x1x512,
    statement S1x1x1x2x512 S1x1x1x1x512⟩

end Cert.Proof

end
-- ==== Proof.Words.lean ====
/-
  What the kernel unpacks from its loaded data, entry by entry.

  A word of four packed bytes is masked to the low two bits of each nibble, and nibble `j` of word row `i` becomes
  row `8 i + j` of the code block: row `ρ` reads byte row `ρ / 2`, field `2 (ρ % 2)` of it, or field `2 (ρ % 2) + 1` when the
  word was first shifted right by two. A row of scales is held as a pair of rows, and the block of 16 rows the kernel
  spreads it to alternates between the two.
-/
module

public import proofs.«01_k».proof.Proof.Gen.KernelIdeal.Skeleton
public import Idealize.ShloMosaic.Lib.BitcastFour
public import Idealize.ShloMosaic.Lib.Pipeline.Value
public import Idealize.ShloMosaic.Lib.Pointwise

@[expose] public section

noncomputable section

namespace Cert.KernelIdeal.Hand

open Cert.KernelIdeal Cert.KernelIdeal.Gen
open Idealize.ShloMosaic

variable {F : FTy → Type} [FloatOps F]

/-- Field `f` of a byte of four two-bit fields, as a word. -/
def codeWord (f : ℕ) (b : BitVec 8) : BitVec 32 := (b.setWidth 32 >>> (2 * f)) &&& 3#32

/-- Nibble `j` of a word, sign extended: the word shifted left until the nibble is on top, then back. -/
def nibble (w : BitVec 32) (j : ℕ) : BitVec 32 :=
  IntOp.shrsi .vector (IntOp.shli .vector w (IntOp.subi 28#32 (IntOp.muli 4#32 (BitVec.ofNat 32 j)))) 28#32

/-- A nibble of which only the low two bits are kept holds those two bits of the word. -/
theorem nibble_getLsbD (w : BitVec 32) (j : ℕ) (hj : j < 8) (q : ℕ) (hq : q < 32) :
    (nibble (IntOp.andi w 858993459#32) j).getLsbD q = (decide (q < 2) && w.getLsbD (4 * j + q)) := by
  have hm : ∀ k, k < 32 → (858993459#32 : BitVec 32).getLsbD k = decide (k % 4 < 2) := by
    intro k hk
    interval_cases k <;> rfl
  have e : nibble (IntOp.andi w 858993459#32) j = ((w &&& 858993459#32) <<< (28 - 4 * j)).sshiftRight 28 := by
    interval_cases j <;> rfl
  rw [e, BitVec.getLsbD_sshiftRight, BitVec.msb_eq_getLsbD_last, BitVec.getLsbD_shiftLeft, BitVec.getLsbD_shiftLeft,
    BitVec.getLsbD_and, BitVec.getLsbD_and]
  by_cases h : q < 4
  · have e1 : 28 + q - (28 - 4 * j) = 4 * j + q := by omega
    rw [if_pos (by omega), e1, hm _ (by omega), show decide ((4 * j + q) % 4 < 2) = decide (q < 2) from decide_eq_decide.mpr (by omega)]
    simp [show 28 + q < 32 by omega, show ¬ 28 + q < 28 - 4 * j by omega, show ¬ 32 ≤ q by omega, Bool.and_comm]
  · have e1 : 32 - 1 - (28 - 4 * j) = 4 * j + 3 := by omega
    rw [if_neg (by omega), e1, hm _ (by omega)]
    simp [show ¬ (4 * j + 3) % 4 < 2 by omega, show ¬ q < 2 by omega]

/-- Bit `q` of a field of a byte. -/
theorem codeWord_getLsbD (f : ℕ) (b : BitVec 8) (q : ℕ) (hq : q < 32) :
    (codeWord f b).getLsbD q = (decide (q < 2) && b.getLsbD (2 * f + q)) := by
  unfold codeWord
  have h3 : (3#32 : BitVec 32).getLsbD q = decide (q < 2) := by interval_cases q <;> rfl
  rw [BitVec.getLsbD_and, BitVec.getLsbD_ushiftRight, BitVec.getLsbD_setWidth, h3, Bool.and_comm]
  by_cases h : q < 2
  · by_cases h2 : 2 * f + q < 32
    · simp [h, h2]
    · simp [h, h2, BitVec.getLsbD_of_ge b (2 * f + q) (by omega)]
  · simp [h]

/-- The kernel's words of packed bytes: bit `q` of word row `i` is bit `q % 8` of byte row `4 i + q / 8`. -/
theorem words_getLsbD (x : Vec F S256x512 .i8) (i : Fin 64) (n : Fin 512) (q : ℕ) (hq : q < 32) :
    (k0_pay18 x (ix2 i n)).getLsbD q = (x (ix2 ⟨4 * i.val + q / 8, by omega⟩ n)).getLsbD (q % 8) := by
  have h := bitcast_8_32_getLsbD_ix2 (R := 256) (r := 64) (n := 512) (fun y => x y)
    bitcasts_S256x512_w8_S64x512_w32 i n q hq ⟨4 * i.val + q / 8, by omega⟩ rfl
  exact h

/-- Row `ρ` of the first code block: field `2 (ρ % 2)` of byte row `ρ / 2`. -/
theorem codes0_apply (x : Vec F S256x512 .i8) (r n : Fin 512) :
    k0_pay20 (F := F) (k0_pay19 x) (ix2 r n)
      = FloatOps.sitofp .bf16 (codeWord (2 * (r.val % 2)) (x (ix2 ⟨r.val / 2, by omega⟩ n))) := by
  have e : k0_pay19 x (ix2 r n)
      = nibble (IntOp.andi (k0_pay18 x (ix2 ⟨r.val / 8, by omega⟩ n)) 858993459#32) (r.val % 8) := by
    unfold k0_pay19 nibble
    pointwise
  show FloatOps.sitofp .bf16 (k0_pay19 x (ix2 r n)) = _
  congr 1
  rw [e]
  refine BitVec.eq_of_getLsbD_eq fun q hq => ?_
  rw [nibble_getLsbD _ _ (Nat.mod_lt _ (by decide)) q hq, codeWord_getLsbD _ _ q hq]
  by_cases h : q < 2
  · rw [words_getLsbD x _ n _ (by omega)]
    have e1 : (⟨4 * (r.val / 8) + (4 * (r.val % 8) + q) / 8, by omega⟩ : Fin 256) = ⟨r.val / 2, by omega⟩ := Fin.ext (by
      show 4 * (r.val / 8) + (4 * (r.val % 8) + q) / 8 = r.val / 2
      omega)
    have e2 : (4 * (r.val % 8) + q) % 8 = 2 * (2 * (r.val % 2)) + q := by omega
    rw [e1, e2]
  · simp [h]

/-- Row `ρ` of the second code block: field `2 (ρ % 2) + 1` of byte row `ρ / 2`. -/
theorem codes1_apply (x : Vec F S256x512 .i8) (r n : Fin 512) :
    k0_pay93 (F := F) (k0_pay18 x) (ix2 r n)
      = FloatOps.sitofp .bf16 (codeWord (2 * (r.val % 2) + 1) (x (ix2 ⟨r.val / 2, by omega⟩ n))) := by
  have e : k0_pay93 (F := F) (k0_pay18 x) (ix2 r n)
      = FloatOps.sitofp .bf16 (nibble (IntOp.andi (k0_pay18 x (ix2 ⟨r.val / 8, by omega⟩ n) >>> 2) 858993459#32) (r.val % 8)) := by
    unfold k0_pay93 nibble
    pointwise
    rfl
  rw [e]
  congr 1
  refine BitVec.eq_of_getLsbD_eq fun q hq => ?_
  rw [nibble_getLsbD _ _ (Nat.mod_lt _ (by decide)) q hq, codeWord_getLsbD _ _ q hq, BitVec.getLsbD_ushiftRight]
  by_cases h : q < 2
  · rw [words_getLsbD x _ n _ (by omega)]
    have e1 : (⟨4 * (r.val / 8) + (2 + (4 * (r.val % 8) + q)) / 8, by omega⟩ : Fin 256) = ⟨r.val / 2, by omega⟩ := Fin.ext (by
      show 4 * (r.val / 8) + (2 + (4 * (r.val % 8) + q)) / 8 = r.val / 2
      omega)
    have e2 : (2 + (4 * (r.val % 8) + q)) % 8 = 2 * (2 * (r.val % 2) + 1) + q := by omega
    rw [e1, e2]
  · simp [h]

/-- A pair of rows spread to 16 rows: row `r` is row `r % 2` of the pair. -/
theorem spread_apply (raw : Vec F S1x1x1x2x512 .bf16) (r : Fin 16) (n : Fin 512) :
    k0_pay21 raw (ix2 r n) = raw (ix5 0 0 0 ⟨r.val % 2, Nat.mod_lt _ (by decide)⟩ n) := by
  unfold k0_pay21
  pointwise
  simp only [dite_eq_ite, ite_self]
  by_cases h : r.val % 2 = 0
  · have e : (⟨r.val % 2, Nat.mod_lt _ (by decide)⟩ : Fin 2) = 0 := Fin.ext h
    rw [if_pos h, e]
  · have e : (⟨r.val % 2, Nat.mod_lt _ (by decide)⟩ : Fin 2) = 1 := Fin.ext (by show r.val % 2 = 1; omega)
    rw [if_neg h, e]

end Cert.KernelIdeal.Hand
-- ==== Proof.Weights.lean ====
/-
  One trip of the loop, as the arrays it multiplies.

  The 512 weight rows of one half of a trip are 32 chunks of 16 rows; chunk `i` is `code * scale + minimum`, its scales and
  minima the pair of rows of group `i / 2`. Both halves of a trip are named here by that one definition.
-/
module

public import proofs.«01_k».proof.Proof.Gen.KernelIdeal.Loops
public import proofs.«01_k».proof.Proof.Words

@[expose] public section

noncomputable section

namespace Cert.KernelIdeal.Hand

open Cert.KernelIdeal Cert.KernelIdeal.Gen
open Idealize.ShloMosaic

variable {F : FTy → Type} [FloatOps F]

theorem slices_chunk (i : Fin 32) : S512x512.Slices ![16 * i.val, 0] S16x512 := by
  revert i; decide

theorem inb_raw (p : Fin 2) (g : Fin 16) :
    ∀ a, (![p.val, g.val % 2, g.val / 2, 0, 0] : Fin 5 → ℕ) a + S1x1x1x2x512.size a ≤ S2x2x8x2x512.size a := by
  revert p g; decide

/-- The pair of rows a scratch buffer holds for half `p`, group `g`. -/
def rawAt (arg : Memref sig .tc .vmem S2x2x8x2x512 .bf16) (L : List (View.Piece (Elt F) S2x2x8x2x512 .bf16))
    (p : Fin 2) (g : Fin 16) : Vec F S1x1x1x2x512 .bf16 :=
  arg.view.readCov L (Rect.unit (s := S2x2x8x2x512) ![p.val, g.val % 2, g.val / 2, 0, 0] S1x1x1x2x512.size (inb_raw p g)).toLoadRect

/-- Chunk `i` of the weight rows of one half. -/
def chunk (codes : FVec F S512x512 .bf16) (s m : Fin 16 → Vec F S1x1x1x2x512 .bf16) (i : Fin 32) : FVec F S16x512 .bf16 :=
  addf (mulf (extractStridedSlice S16x512 ![16 * i.val, 0] codes (slices_chunk i)) (k0_pay21 (s ⟨i.val / 2, by omega⟩)))
    (k0_pay21 (m ⟨i.val / 2, by omega⟩))

theorem chunks_fit (f : Fin 32 → S16x512.Idx → F .bf16) :
    Shape.Concatenates ((List.ofFn fun i : Fin 32 => (⟨S16x512, f i⟩ : (s : Shape) × (s.Idx → F .bf16))).map (·.1)) S512x512 0 :=
  concatenates_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S512x512_d0

/-- The 512 weight rows of one half. -/
def weights (codes : FVec F S512x512 .bf16) (s m : Fin 16 → Vec F S1x1x1x2x512 .bf16) : FVec F S512x512 .bf16 :=
  concatenate S512x512 0 (List.ofFn fun i : Fin 32 => ⟨S16x512, chunk codes s m i⟩) (chunks_fit (chunk codes s m))

section Trip

set_option maxRecDepth 65536

variable (arg1 : Memref sig .tc .vmem S128x14336 .bf16) (arg2 : Memref sig .tc .vmem S3584x512 .i8)
  (arg3 arg4 : Memref sig .tc .vmem S896x512 .bf16) (arg6 : Memref sig .tc .vmem S128x512 .f32)
  (arg7 arg8 : Memref sig .tc .vmem S2x2x8x2x512 .bf16)
  (X1 : BufTy.Contents (Elt F) arg1.view.ty) (X2 : BufTy.Contents (Elt F) arg2.view.ty)
  (X3 : BufTy.Contents (Elt F) arg3.view.ty) (X4 : BufTy.Contents (Elt F) arg4.view.ty)
  (k : Fin k0_t1_loop.trips) (f6 : BufTy.Contents (Elt F) arg6.view.ty)

/-- The 256 byte rows of trip `k`. -/
abbrev bytesAt : Vec F S256x512 .i8 :=
  View.readAt (Elt F) arg2.view (Rect.unit (s := S3584x512) (k0_off2 k) S256x512.size (k0_off2_inb k)).toLoadRect X2

/-- The 128 columns-by-rows of `x` that half `p` of trip `k` multiplies: columns from `7168 p + 512 k`. -/
abbrev colsAt0 : Vec F S128x512 .bf16 :=
  View.readAt (Elt F) arg1.view (Rect.unit (s := S128x14336) (k0_off3 k 0#32) S128x512.size (k0_off3_inb k 0)).toLoadRect X1

/-- The accumulator as the trip finds it. -/
abbrev accAt : Vec F S128x512 .f32 :=
  View.readAt (Elt F) arg6.view (Rect.unit (s := S128x512) ![0, 0] S128x512.size inb_S128x512_S128x512_0_0).toLoadRect f6

/-- What the trip's first product leaves: the accumulator plus the first half. -/
theorem first_sum :
    trip_k0_t1.sl.r_49 arg1 arg2 arg3 arg4 arg6 arg7 arg8 X1 X2 X3 X4 k f6
      = addf (accAt arg6 f6)
          (matmul dot_S128x512_S512x512_S128x512_1_0_0_1_n_n none
            (shapeCast S128x512 (colsAt0 arg1 X1 k) shapeCasts_S128x512_S128x512)
            (weights (k0_pay20 (k0_pay19 (bytesAt arg2 X2 k)))
              (rawAt arg7 (trip_k0_t1.sl.HW_arg7_4 arg3 X3 k) 0) (rawAt arg8 (trip_k0_t1.sl.HW_arg8_4 arg4 X4 k) 0))
            (constant S128x512 .f32 0x00000000#32)) := by
  rfl

/-- The weight rows of the second half. -/
theorem second_weights :
    trip_k0_t1.sl.r_95 arg2 arg3 arg4 arg7 arg8 X2 X3 X4 k
      = weights (k0_pay93 (k0_pay18 (bytesAt arg2 X2 k)))
          (rawAt arg7 (trip_k0_t1.sl.HW_arg7_4 arg3 X3 k) 1) (rawAt arg8 (trip_k0_t1.sl.HW_arg8_4 arg4 X4 k) 1) := by
  rfl

end Trip

/-! ## One entry of the weights -/

/-- Row `ρ`, column `n`: the code there times the scale of group `ρ / 32`, parity `ρ % 2`, plus its minimum. -/
theorem weights_apply (codes : FVec F S512x512 .bf16) (s m : Fin 16 → Vec F S1x1x1x2x512 .bf16) (r n : Fin 512) :
    weights codes s m (ix2 r n)
      = FloatOps.addf (FloatOps.mulf (codes (ix2 r n))
            (s ⟨r.val / 32, by omega⟩ (ix5 0 0 0 ⟨r.val % 2, Nat.mod_lt _ (by decide)⟩ n)))
          (m ⟨r.val / 32, by omega⟩ (ix5 0 0 0 ⟨r.val % 2, Nat.mod_lt _ (by decide)⟩ n)) := by
  have e := concatenate_ofFn_apply (t := S512x512) (s₁ := S16x512) 0 (chunk codes s m) (chunks_fit _) rfl 16 rfl
    (ix2 r n) ⟨r.val / 16, by omega⟩ rfl (ix2 ⟨r.val % 16, Nat.mod_lt _ (by decide)⟩ n) rfl
    (fun b hb => by
      match b with
      | ⟨0, _⟩ => exact absurd rfl hb
      | ⟨1, _⟩ => rfl)
  refine e.trans ?_
  show FloatOps.addf (FloatOps.mulf (extractStridedSlice S16x512 _ codes _ (ix2 _ n)) (k0_pay21 _ (ix2 _ n)))
    (k0_pay21 _ (ix2 _ n)) = _
  rw [spread_apply, spread_apply]
  have e1 : (⟨(⟨r.val / 16, by omega⟩ : Fin 32).val / 2, by omega⟩ : Fin 16) = ⟨r.val / 32, by omega⟩ := Fin.ext (by
    show r.val / 16 / 2 = r.val / 32
    omega)
  have e2 : (⟨(⟨r.val % 16, Nat.mod_lt _ (by decide)⟩ : Fin 16).val % 2, Nat.mod_lt _ (by decide)⟩ : Fin 2)
      = ⟨r.val % 2, Nat.mod_lt _ (by decide)⟩ := Fin.ext (by
    show r.val % 16 % 2 = r.val % 2
    omega)
  rw [e1, e2]
  congr 2
  show codes _ = codes _
  congr 1
  funext a
  match a with
  | ⟨0, _⟩ => exact Fin.ext (by show 16 * (r.val / 16) + r.val % 16 = r.val; omega)
  | ⟨1, _⟩ => exact Fin.ext (by show 0 + n.val = n.val; omega)

/-! ## The pairs of rows the two scratch buffers hold -/

theorem trips_lt (k : Fin k0_t1_loop.trips) : k.val < 14 := Nat.lt_of_lt_of_le k.isLt k0_t1_abs.2.1

/-- Sixteen rows of an argument block: those of field `r`, trip `k`. -/
def rowsAt (arg : Memref sig .tc .vmem S896x512 .bf16) (X : BufTy.Contents (Elt F) arg.view.ty)
    (k : Fin k0_t1_loop.trips) (r : Fin 4) : Vec F S16x512 .bf16 :=
  View.readAt (Elt F) arg.view
    (Rect.unit (s := S896x512) (k0_off1 k (BitVec.ofNat 32 (224 * r.val))) S16x512.size (k0_off1_inb k r)).toLoadRect X

theorem rowsAt_apply (arg : Memref sig .tc .vmem S896x512 .bf16) (X : BufTy.Contents (Elt F) arg.view.ty)
    (k : Fin k0_t1_loop.trips) (r : Fin 4) (a : Fin 16) (n : Fin 512) (R : Fin 896)
    (hR : R.val = 224 * r.val + 16 * k.val + a.val) :
    rowsAt arg X k r (ix2 a n) = arg.view.read (Elt F) X (ix2 R n) := by
  show arg.view.read (Elt F) X _ = _
  congr 1
  funext b
  have h := k0_off1_eq k r
  match b with
  | ⟨0, _⟩ => exact Fin.ext (by
      show k0_off1 k (BitVec.ofNat 32 (224 * r.val)) 0 + 1 * a.val = R.val
      rw [h]; show 224 * r.val + 16 * k.val + 1 * a.val = R.val; omega)
  | ⟨1, _⟩ => exact Fin.ext (by
      show k0_off1 k (BitVec.ofNat 32 (224 * r.val)) 1 + 1 * n.val = n.val
      rw [h]; show 0 + 1 * n.val = n.val; omega)

/-- Even rows of two sets of rows, as pairs. -/
theorem even_pairs (lo hi : Vec F S16x512 .bf16) (r : Fin 8) (h : Fin 2) (n : Fin 512) :
    k0_pay4 lo hi (ix5 0 0 r h n) = (if h.val = 0 then lo else hi) (ix2 ⟨2 * r.val, by omega⟩ n) := by
  unfold k0_pay4
  pointwise
  rw [Nat.mod_eq_of_lt h.isLt]
  split <;> rfl

/-- Odd rows of two sets of rows, as pairs. -/
theorem odd_pairs (lo hi : Vec F S16x512 .bf16) (r : Fin 8) (h : Fin 2) (n : Fin 512) :
    k0_pay5 lo hi (ix5 0 0 r h n) = (if h.val = 0 then lo else hi) (ix2 ⟨2 * r.val + 1, by omega⟩ n) := by
  unfold k0_pay5
  pointwise
  rw [Nat.mod_eq_of_lt h.isLt]
  split <;> rfl

theorem inb_store (p q : Fin 2) :
    ∀ a, (![p.val, q.val, 0, 0, 0] : Fin 5 → ℕ) a + S1x1x8x2x512.size a ≤ S2x2x8x2x512.size a := by
  revert p q; decide

/-- The box of a store: everything of half `p`, parity `q`. -/
abbrev storeBox (p q : Fin 2) : Rect S2x2x8x2x512 :=
  Rect.unit (s := S2x2x8x2x512) ![p.val, q.val, 0, 0, 0] S1x1x8x2x512.size (inb_store p q)

/-- The store of the even groups of half `p`: fields `p` and `p + 2`. -/
def evenStore (arg : Memref sig .tc .vmem S896x512 .bf16) (X : BufTy.Contents (Elt F) arg.view.ty)
    (k : Fin k0_t1_loop.trips) (p : Fin 2) : View.Piece (Elt F) S2x2x8x2x512 .bf16 :=
  ⟨storeBox p 0, k0_pay4 (rowsAt arg X k ⟨p.val, by omega⟩) (rowsAt arg X k ⟨p.val + 2, by omega⟩)⟩

/-- The store of the odd groups of half `p`. -/
def oddStore (arg : Memref sig .tc .vmem S896x512 .bf16) (X : BufTy.Contents (Elt F) arg.view.ty)
    (k : Fin k0_t1_loop.trips) (p : Fin 2) : View.Piece (Elt F) S2x2x8x2x512 .bf16 :=
  ⟨storeBox p 1, k0_pay5 (rowsAt arg X k ⟨p.val, by omega⟩) (rowsAt arg X k ⟨p.val + 2, by omega⟩)⟩

/-- The four stores that fill a scratch buffer, the last first. -/
def pairsOf (arg : Memref sig .tc .vmem S896x512 .bf16) (X : BufTy.Contents (Elt F) arg.view.ty)
    (k : Fin k0_t1_loop.trips) : List (View.Piece (Elt F) S2x2x8x2x512 .bf16) :=
  [oddStore arg X k 1, evenStore arg X k 1, oddStore arg X k 0, evenStore arg X k 0]

theorem scales_stored (arg3 : Memref sig .tc .vmem S896x512 .bf16) (X3 : BufTy.Contents (Elt F) arg3.view.ty)
    (k : Fin k0_t1_loop.trips) : trip_k0_t1.sl.HW_arg7_4 arg3 X3 k = pairsOf arg3 X3 k := rfl

theorem minima_stored (arg4 : Memref sig .tc .vmem S896x512 .bf16) (X4 : BufTy.Contents (Elt F) arg4.view.ty)
    (k : Fin k0_t1_loop.trips) : trip_k0_t1.sl.HW_arg8_4 arg4 X4 k = pairsOf arg4 X4 k := rfl

/-- What the pairs are: entry (half `p`, parity `q`, pair `r`, row `h`) is the row of field `2 h + p`, group
    `16 k + 2 r + q`. -/
def pairRows (arg : Memref sig .tc .vmem S896x512 .bf16) (X : BufTy.Contents (Elt F) arg.view.ty)
    (k : Fin k0_t1_loop.trips) (p q : Fin 2) (r : Fin 8) (h : Fin 2) (n : Fin 512) : F .bf16 :=
  arg.view.read (Elt F) X (ix2 ⟨224 * (2 * h.val + p.val) + 16 * k.val + (2 * r.val + q.val), by
    have := trips_lt k
    omega⟩ n)

section Pieces

variable (arg : Memref sig .tc .vmem S896x512 .bf16) (X : BufTy.Contents (Elt F) arg.view.ty) (k : Fin k0_t1_loop.trips)

theorem even_piece (p : Fin 2) (r : Fin 8) (h : Fin 2) (n : Fin 512) :
    k0_pay4 (rowsAt arg X k ⟨p.val, by omega⟩) (rowsAt arg X k ⟨p.val + 2, by omega⟩) (ix5 0 0 r h n)
      = pairRows arg X k p 0 r h n := by
  rw [even_pairs]
  have := trips_lt k
  by_cases e : h.val = 0
  · rw [if_pos e]
    exact rowsAt_apply arg X k _ _ n _ (by
      show 224 * (2 * h.val + p.val) + 16 * k.val + (2 * r.val + 0) = 224 * p.val + 16 * k.val + 2 * r.val; omega)
  · rw [if_neg e]
    exact rowsAt_apply arg X k _ _ n _ (by
      show 224 * (2 * h.val + p.val) + 16 * k.val + (2 * r.val + 0) = 224 * (p.val + 2) + 16 * k.val + 2 * r.val; omega)

theorem odd_piece (p : Fin 2) (r : Fin 8) (h : Fin 2) (n : Fin 512) :
    k0_pay5 (rowsAt arg X k ⟨p.val, by omega⟩) (rowsAt arg X k ⟨p.val + 2, by omega⟩) (ix5 0 0 r h n)
      = pairRows arg X k p 1 r h n := by
  rw [odd_pairs]
  have := trips_lt k
  by_cases e : h.val = 0
  · rw [if_pos e]
    exact rowsAt_apply arg X k _ _ n _ (by
      show 224 * (2 * h.val + p.val) + 16 * k.val + (2 * r.val + 1) = 224 * p.val + 16 * k.val + (2 * r.val + 1); omega)
  · rw [if_neg e]
    exact rowsAt_apply arg X k _ _ n _ (by
      show 224 * (2 * h.val + p.val) + 16 * k.val + (2 * r.val + 1) = 224 * (p.val + 2) + 16 * k.val + (2 * r.val + 1); omega)

/-- A box index of one store's payload, by its coordinates. -/
theorem piece_idx (x : S1x1x8x2x512.Idx) : x = ix5 0 0 (x 2) (x 3) (x 4) := by
  funext a
  match a with
  | ⟨0, _⟩ => exact Fin.ext (by have : (x 0).val < 1 := (x 0).isLt; show (x 0).val = 0; omega)
  | ⟨1, _⟩ => exact Fin.ext (by have : (x 1).val < 1 := (x 1).isLt; show (x 1).val = 0; omega)
  | ⟨2, _⟩ => rfl
  | ⟨3, _⟩ => rfl
  | ⟨4, _⟩ => rfl

/-- The same reading of a pair at any index of the buffer. -/
def pairsVal (y : S2x2x8x2x512.Idx) : F .bf16 := pairRows arg X k (y 0) (y 1) (y 2) (y 3) (y 4)

/-- Where a store of half `p`, parity `q` puts its entry. -/
theorem pairsVal_emb (p q : Fin 2) (x : S1x1x8x2x512.Idx) :
    pairsVal arg X k ((storeBox p q).emb x)
      = pairRows arg X k p q (x 2) (x 3) (x 4) := by
  have e : (storeBox p q).emb x
      = ix5 p q (x 2) (x 3) (x 4) := by
    funext a
    match a with
    | ⟨0, _⟩ => exact Fin.ext (by
        have : (x 0).val < 1 := (x 0).isLt
        show p.val + 1 * (x 0).val = p.val
        omega)
    | ⟨1, _⟩ => exact Fin.ext (by
        have : (x 1).val < 1 := (x 1).isLt
        show q.val + 1 * (x 1).val = q.val
        omega)
    | ⟨2, _⟩ => exact Fin.ext (by show 0 + 1 * (x 2).val = (x 2).val; omega)
    | ⟨3, _⟩ => exact Fin.ext (by show 0 + 1 * (x 3).val = (x 3).val; omega)
    | ⟨4, _⟩ => exact Fin.ext (by show 0 + 1 * (x 4).val = (x 4).val; omega)
  rw [e]
  rfl

/-- An index of the buffer lies in the store of its half and parity. -/
theorem mem_piece (p q : Fin 2) (r : Fin 8) (h : Fin 2) (n : Fin 512) :
    (ix5 p q r h n : S2x2x8x2x512.Idx)
      ∈ (storeBox p q).set := by
  have e : (ix5 p q r h n : S2x2x8x2x512.Idx)
      = (storeBox p q).idx
          (ix5 0 0 r h n : S1x1x8x2x512.Idx) := by
    funext a
    match a with
    | ⟨0, _⟩ => exact Fin.ext (by show p.val = p.val + 1 * 0; omega)
    | ⟨1, _⟩ => exact Fin.ext (by show q.val = q.val + 1 * 0; omega)
    | ⟨2, _⟩ => exact Fin.ext (by show r.val = 0 + 1 * r.val; omega)
    | ⟨3, _⟩ => exact Fin.ext (by show h.val = 0 + 1 * h.val; omega)
    | ⟨4, _⟩ => exact Fin.ext (by show n.val = 0 + 1 * n.val; omega)
  rw [e]
  exact (storeBox p q).toLoadRect.idx_mem _

theorem even_store_val (p : Fin 2) (x : S1x1x8x2x512.Idx) :
    k0_pay4 (rowsAt arg X k ⟨p.val, by omega⟩) (rowsAt arg X k ⟨p.val + 2, by omega⟩) x
      = pairsVal arg X k ((storeBox p 0).emb x) := by
  rw [pairsVal_emb]
  exact (congrArg _ (piece_idx x)).trans (even_piece arg X k p (x 2) (x 3) (x 4))

theorem odd_store_val (p : Fin 2) (x : S1x1x8x2x512.Idx) :
    k0_pay5 (rowsAt arg X k ⟨p.val, by omega⟩) (rowsAt arg X k ⟨p.val + 2, by omega⟩) x
      = pairsVal arg X k ((storeBox p 1).emb x) := by
  rw [pairsVal_emb]
  exact (congrArg _ (piece_idx x)).trans (odd_piece arg X k p (x 2) (x 3) (x 4))

variable [∀ e, Nonempty (Elt F e)]

/-- The filled scratch buffer, read at any index. -/
theorem pairs_canon (p q : Fin 2) (r : Fin 8) (h : Fin 2) (n : Fin 512) :
    View.canon (pairsOf arg X k) (ix5 p q r h n) = pairRows arg X k p q r h n := by
  refine (View.canon_apply_of_pieces (pairsVal arg X k) (pairsOf arg X k) ?_ (ix5 p q r h n) ?_).trans rfl
  · intro pc hpc x
    rcases List.mem_cons.mp hpc with rfl | hpc
    · exact odd_store_val arg X k 1 x
    rcases List.mem_cons.mp hpc with rfl | hpc
    · exact even_store_val arg X k 1 x
    rcases List.mem_cons.mp hpc with rfl | hpc
    · exact odd_store_val arg X k 0 x
    rcases List.mem_cons.mp hpc with rfl | hpc
    · exact even_store_val arg X k 0 x
    · exact absurd hpc List.not_mem_nil
  · have h0 : evenStore arg X k 0 ∈ pairsOf arg X k := .tail _ (.tail _ (.tail _ (.head _)))
    have h1 : oddStore arg X k 0 ∈ pairsOf arg X k := .tail _ (.tail _ (.head _))
    have h2 : evenStore arg X k 1 ∈ pairsOf arg X k := .tail _ (.head _)
    have h3 : oddStore arg X k 1 ∈ pairsOf arg X k := .head _
    match p, q with
    | ⟨0, _⟩, ⟨0, _⟩ => exact ⟨_, h0, mem_piece 0 0 r h n⟩
    | ⟨0, _⟩, ⟨1, _⟩ => exact ⟨_, h1, mem_piece 0 1 r h n⟩
    | ⟨1, _⟩, ⟨0, _⟩ => exact ⟨_, h2, mem_piece 1 0 r h n⟩
    | ⟨1, _⟩, ⟨1, _⟩ => exact ⟨_, h3, mem_piece 1 1 r h n⟩

/-- The pair of rows read for half `p`, group `g`: row `h` is field `2 h + p`, group `16 k + g`. -/
theorem rawAt_apply (w : Memref sig .tc .vmem S2x2x8x2x512 .bf16) (p : Fin 2) (g : Fin 16) (h : Fin 2) (n : Fin 512)
    (R : Fin 896) (hR : R.val = 224 * (2 * h.val + p.val) + 16 * k.val + g.val) :
    rawAt w (pairsOf arg X k) p g (ix5 0 0 0 h n) = arg.view.read (Elt F) X (ix2 R n) := by
  unfold rawAt
  rw [View.readCov_eq_canon']
  have e : (Rect.unit (s := S2x2x8x2x512) ![p.val, g.val % 2, g.val / 2, 0, 0] S1x1x1x2x512.size (inb_raw p g)).toLoadRect.idx
      (ix5 0 0 0 h n : S1x1x1x2x512.Idx)
      = ix5 p ⟨g.val % 2, Nat.mod_lt _ (by decide)⟩ ⟨g.val / 2, by omega⟩ h n := by
    funext a
    match a with
    | ⟨0, _⟩ => exact Fin.ext (by show p.val + 1 * 0 = p.val; omega)
    | ⟨1, _⟩ => exact Fin.ext (by show g.val % 2 + 1 * 0 = g.val % 2; omega)
    | ⟨2, _⟩ => exact Fin.ext (by show g.val / 2 + 1 * 0 = g.val / 2; omega)
    | ⟨3, _⟩ => exact Fin.ext (by show 0 + 1 * h.val = h.val; omega)
    | ⟨4, _⟩ => exact Fin.ext (by show 0 + 1 * n.val = n.val; omega)
  show View.canon (pairsOf arg X k) (Rect.toLoadRect _ |>.idx _) = _
  rw [e, pairs_canon]
  unfold pairRows
  congr 2
  exact Fin.ext (by
    show 224 * (2 * h.val + p.val) + 16 * k.val + (2 * (g.val / 2) + g.val % 2) = R.val
    omega)

end Pieces

end Cert.KernelIdeal.Hand
-- ==== Proof.Trip.lean ====
/-
  What one trip of the loop, and then all of them, leave in the accumulator.

  Over the reals a trip adds two sums of 512 products: the columns of `x` it reads against the weights it unpacked, in
  order `k`, half 0 then half 1. The accumulator after the loop is the fold of the trips over a zeroed one.
-/
module

public import proofs.«01_k».proof.Proof.Weights
public import Idealize.ShloMosaic.Lib.MatmulPlain

@[expose] public section

noncomputable section

namespace Cert.KernelIdeal.Hand

open Cert.KernelIdeal Cert.KernelIdeal.Gen
open Idealize.ShloMosaic

/-! ## What the arrays say -/

/-- Weight row `r` of half `p`, trip `k`: field `2 (r % 2) + p` of byte row `256 k + r / 2`, times the scale of that field's
    group `16 k + r / 32`, plus its minimum. -/
def weight (Q : S3584x512.Idx → BitVec 8) (S M : S896x512.Idx → Ideal .bf16) (k : Fin k0_t1_loop.trips) (p : Fin 2)
    (r n : Fin 512) : Ideal .bf16 :=
  FloatOps.addf (FloatOps.mulf
    (FloatOps.sitofp .bf16 (codeWord (2 * (r.val % 2) + p.val) (Q (ix2 ⟨256 * k.val + r.val / 2, by have := trips_lt k; omega⟩ n))))
    (S (ix2 ⟨224 * (2 * (r.val % 2) + p.val) + 16 * k.val + r.val / 32, by have := trips_lt k; omega⟩ n)))
    (M (ix2 ⟨224 * (2 * (r.val % 2) + p.val) + 16 * k.val + r.val / 32, by have := trips_lt k; omega⟩ n))

/-- The sum half `p` of trip `k` adds at row `i`, column `n`. -/
def halfSum (X : S128x14336.Idx → Ideal .bf16) (Q : S3584x512.Idx → BitVec 8) (S M : S896x512.Idx → Ideal .bf16)
    (k : Fin k0_t1_loop.trips) (p : Fin 2) (i : Fin 128) (n : Fin 512) : EReal :=
  ∑ r : Fin 512, (X (ix2 i ⟨7168 * p.val + 512 * k.val + r.val, by have := trips_lt k; omega⟩) : EReal) * (weight Q S M k p r n : EReal)

/-- The accumulator after `k` trips over a zeroed one. -/
def accAfter (X : S128x14336.Idx → Ideal .bf16) (Q : S3584x512.Idx → BitVec 8) (S M : S896x512.Idx → Ideal .bf16)
    (i : Fin 128) (n : Fin 512) : ℕ → EReal
  | 0 => 0
  | k + 1 => if h : k < k0_t1_loop.trips then
      accAfter X Q S M i n k + halfSum X Q S M ⟨k, h⟩ 0 i n + halfSum X Q S M ⟨k, h⟩ 1 i n
    else accAfter X Q S M i n k

/-! ## One trip -/

/-- A product of the trip, over the reals. -/
theorem product_apply (x : FVec Ideal S128x512 .bf16) (w : FVec Ideal S512x512 .bf16) (i : Fin 128) (n : Fin 512) :
    matmul dot_S128x512_S512x512_S128x512_1_0_0_1_n_n none (shapeCast S128x512 x shapeCasts_S128x512_S128x512) w
        (constant S128x512 .f32 0x00000000#32) (ix2 i n)
      = ∑ r : Fin 512, (x (ix2 i r) : EReal) * (w (ix2 r n) : EReal) := by
  rw [shapeCast_self]
  have e : dot_S128x512_S512x512_S128x512_1_0_0_1_n_n = DotDims.plain 128 512 512 := rfl
  have h := Ideal.matmul_plain_apply (M := 128) (K := 512) (N := 512) none x w (constant S128x512 .f32 0x00000000#32) i n
  refine Eq.trans ?_ (h.trans ?_)
  · rfl
  · have h0 : (constant (F := Ideal) S128x512 .f32 0x00000000#32) (ValueIdx.ix2 i n) = (0 : EReal) := by
      show Ideal.ofBits .f32 0x00000000#32 = _
      simp
    rw [h0, zero_add]
    rfl

section Reads

variable (arg1 : Memref sig .tc .vmem S128x14336 .bf16) (arg2 : Memref sig .tc .vmem S3584x512 .i8)
  (arg3 arg4 : Memref sig .tc .vmem S896x512 .bf16)
  (arg7 arg8 : Memref sig .tc .vmem S2x2x8x2x512 .bf16)
  (X1 : BufTy.Contents (Elt Ideal) arg1.view.ty) (X2 : BufTy.Contents (Elt Ideal) arg2.view.ty)
  (X3 : BufTy.Contents (Elt Ideal) arg3.view.ty) (X4 : BufTy.Contents (Elt Ideal) arg4.view.ty)
  (k : Fin k0_t1_loop.trips)

theorem bytesAt_apply (a : Fin 256) (n : Fin 512) (R : Fin 3584) (hR : R.val = 256 * k.val + a.val) :
    bytesAt arg2 X2 k (ix2 a n) = arg2.view.read (Elt Ideal) X2 (ix2 R n) := by
  show arg2.view.read (Elt Ideal) X2 _ = _
  congr 1
  funext b
  have h := k0_off2_eq k
  match b with
  | ⟨0, _⟩ => exact Fin.ext (by
      show k0_off2 k 0 + 1 * a.val = R.val
      rw [h]; show 256 * k.val + 1 * a.val = R.val; omega)
  | ⟨1, _⟩ => exact Fin.ext (by
      show k0_off2 k 1 + 1 * n.val = n.val
      rw [h]; show 0 + 1 * n.val = n.val; omega)

/-- The columns of `x` that half `p` reads. -/
def colsAt (p : Fin 2) : Vec Ideal S128x512 .bf16 :=
  View.readAt (Elt Ideal) arg1.view
    (Rect.unit (s := S128x14336) (k0_off3 k (BitVec.ofNat 32 (3584 * p.val))) S128x512.size (k0_off3_inb k p)).toLoadRect X1

theorem colsAt_apply (p : Fin 2) (i : Fin 128) (r : Fin 512) (C : Fin 14336) (hC : C.val = 7168 * p.val + 512 * k.val + r.val) :
    colsAt arg1 X1 k p (ix2 i r) = arg1.view.read (Elt Ideal) X1 (ix2 i C) := by
  show arg1.view.read (Elt Ideal) X1 _ = _
  congr 1
  funext b
  have h := k0_off3_eq k p
  match b with
  | ⟨0, _⟩ => exact Fin.ext (by
      show k0_off3 k (BitVec.ofNat 32 (3584 * p.val)) 0 + 1 * i.val = i.val
      rw [h]; show 0 + 1 * i.val = i.val; omega)
  | ⟨1, _⟩ => exact Fin.ext (by
      show k0_off3 k (BitVec.ofNat 32 (3584 * p.val)) 1 + 1 * r.val = C.val
      rw [h]; show 7168 * p.val + 512 * k.val + 1 * r.val = C.val; omega)

/-- The weights of half 0, read. -/
theorem first_half (r n : Fin 512) :
    weights (k0_pay20 (k0_pay19 (bytesAt arg2 X2 k))) (rawAt arg7 (pairsOf arg3 X3 k) 0) (rawAt arg8 (pairsOf arg4 X4 k) 0) (ix2 r n)
      = weight (arg2.view.read (Elt Ideal) X2) (arg3.view.read (Elt Ideal) X3) (arg4.view.read (Elt Ideal) X4) k 0 r n := by
  have := trips_lt k
  rw [weights_apply, codes0_apply, bytesAt_apply arg2 X2 k _ n ⟨256 * k.val + r.val / 2, by omega⟩ rfl,
    rawAt_apply arg3 X3 k arg7 0 _ _ n ⟨224 * (2 * (r.val % 2) + 0) + 16 * k.val + r.val / 32, by omega⟩ rfl,
    rawAt_apply arg4 X4 k arg8 0 _ _ n ⟨224 * (2 * (r.val % 2) + 0) + 16 * k.val + r.val / 32, by omega⟩ rfl]
  rfl

/-- The weights of half 1, read. -/
theorem second_half (r n : Fin 512) :
    weights (k0_pay93 (k0_pay18 (bytesAt arg2 X2 k))) (rawAt arg7 (pairsOf arg3 X3 k) 1) (rawAt arg8 (pairsOf arg4 X4 k) 1) (ix2 r n)
      = weight (arg2.view.read (Elt Ideal) X2) (arg3.view.read (Elt Ideal) X3) (arg4.view.read (Elt Ideal) X4) k 1 r n := by
  have := trips_lt k
  rw [weights_apply, codes1_apply, bytesAt_apply arg2 X2 k _ n ⟨256 * k.val + r.val / 2, by omega⟩ rfl,
    rawAt_apply arg3 X3 k arg7 1 _ _ n ⟨224 * (2 * (r.val % 2) + 1) + 16 * k.val + r.val / 32, by omega⟩ rfl,
    rawAt_apply arg4 X4 k arg8 1 _ _ n ⟨224 * (2 * (r.val % 2) + 1) + 16 * k.val + r.val / 32, by omega⟩ rfl]
  rfl

end Reads

end Cert.KernelIdeal.Hand
-- ==== Proof.Loop.lean ====
/-
  The loop's accumulator: trip by trip it is `accAfter`.
-/
module

public import proofs.«01_k».proof.Proof.Trip
public import Idealize.ShloMosaic.Lib.Tactic

@[expose] public section

noncomputable section

namespace Cert.KernelIdeal.Hand

open Cert.KernelIdeal Cert.KernelIdeal.Gen
open Idealize.ShloMosaic Idealize.ShloMosaic.TcCoe

theorem zero_offsets : (![0, 0] : Fin 2 → Nat) = fun _ => 0 := funext fun a => by fin_cases a <;> rfl

/-- One store at offsets zero over a whole shape is what is then read, whatever was there. -/
theorem read_whole_store {sp : Space} {S : Shape} {e : EltTy} (v : View sig .tc sp S e) (f : v.ty.Contents (Elt Ideal))
    {off : Fin S.rank → ℕ} (h : off = fun _ => 0) (inb : ∀ a, off a + S.size a ≤ S.size a) (w : S.Idx → Elt Ideal e) :
    v.read (Elt Ideal) (v.writes (Elt Ideal) f [(⟨Rect.unit off S.size inb, w⟩ : View.Piece (Elt Ideal) S e)]) = w := by
  subst h
  exact View.read_writes_whole v f w

section Loop

variable (c : Dev nD) (i : grid0.Coords)
  (arg1 : Memref sig .tc .vmem S128x14336 .bf16) (harg1 : arg1.IsWhole) (arg2 : Memref sig .tc .vmem S3584x512 .i8)
  (harg2 : arg2.IsWhole) (arg3 : Memref sig .tc .vmem S896x512 .bf16) (harg3 : arg3.IsWhole)
  (arg4 : Memref sig .tc .vmem S896x512 .bf16) (harg4 : arg4.IsWhole) (arg5 : Memref sig .tc .vmem S128x512 .bf16)
  (harg5 : arg5.IsWhole) (arg6 : Memref sig .tc .vmem S128x512 .f32) (harg6 : arg6.IsWhole)
  (arg7 : Memref sig .tc .vmem S2x2x8x2x512 .bf16) (harg7 : arg7.IsWhole)
  (arg8 : Memref sig .tc .vmem S2x2x8x2x512 .bf16) (harg8 : arg8.IsWhole)
  (X1 : BufTy.Contents (Elt Ideal) arg1.view.ty) (X2 : BufTy.Contents (Elt Ideal) arg2.view.ty)
  (X3 : BufTy.Contents (Elt Ideal) arg3.view.ty) (X4 : BufTy.Contents (Elt Ideal) arg4.view.ty)

/-- What a trip stores in the accumulator over contents `f6`. -/
def tripValue (k : Fin k0_t1_loop.trips) (f6 : BufTy.Contents (Elt Ideal) arg6.view.ty) : FVec Ideal S128x512 .f32 :=
  k0_pay2 (trip_k0_t1.sl.r_49 arg1 arg2 arg3 arg4 arg6 arg7 arg8 X1 X2 X3 X4 k f6)
    (trip_k0_t1.sl.r_95 arg2 arg3 arg4 arg7 arg8 X2 X3 X4 k) (colsAt arg1 X1 k 1)

/-- A trip stores the accumulator once, whole. -/
theorem trip_pieces (k : Fin k0_t1_loop.trips) (f6 : BufTy.Contents (Elt Ideal) arg6.view.ty)
    (f7 : BufTy.Contents (Elt Ideal) arg7.view.ty) (f8 : BufTy.Contents (Elt Ideal) arg8.view.ty) :
    (trip_k0_t1 (F := Ideal) Variants.none c none i arg1 harg1 arg2 harg2 arg3 harg3 arg4 harg4 arg5 harg5 arg6 harg6 arg7 harg7
        arg8 harg8 X1 X2 X3 X4 k).1 f6 f7 f8
      = [⟨Rect.unit (s := S128x512) ![0, 0] S128x512.size inb_S128x512_S128x512_0_0,
          tripValue arg1 arg2 arg3 arg4 arg6 arg7 arg8 X1 X2 X3 X4 k f6⟩] := by
  unfold trip_k0_t1
  rfl

/-- One entry of it: the entry found plus the two halves' sums. -/
theorem tripValue_apply (k : Fin k0_t1_loop.trips) (f6 : BufTy.Contents (Elt Ideal) arg6.view.ty) (a : Fin 128) (n : Fin 512) :
    (tripValue arg1 arg2 arg3 arg4 arg6 arg7 arg8 X1 X2 X3 X4 k f6 (ix2 a n) : EReal)
      = arg6.view.read (Elt Ideal) f6 (ix2 a n)
        + halfSum (arg1.view.read (Elt Ideal) X1) (arg2.view.read (Elt Ideal) X2) (arg3.view.read (Elt Ideal) X3)
            (arg4.view.read (Elt Ideal) X4) k 0 a n
        + halfSum (arg1.view.read (Elt Ideal) X1) (arg2.view.read (Elt Ideal) X2) (arg3.view.read (Elt Ideal) X3)
            (arg4.view.read (Elt Ideal) X4) k 1 a n := by
  have := trips_lt k
  unfold tripValue k0_pay2
  rw [shapeCast_self, first_sum, second_weights, scales_stored, minima_stored]
  show ((accAt arg6 f6 (ix2 a n) : EReal) + _) + _ = _
  have e0 := product_apply (colsAt arg1 X1 k 0)
    (weights (k0_pay20 (k0_pay19 (bytesAt arg2 X2 k))) (rawAt arg7 (pairsOf arg3 X3 k) 0) (rawAt arg8 (pairsOf arg4 X4 k) 0)) a n
  have e1 := product_apply (colsAt arg1 X1 k 1)
    (weights (k0_pay93 (k0_pay18 (bytesAt arg2 X2 k))) (rawAt arg7 (pairsOf arg3 X3 k) 1) (rawAt arg8 (pairsOf arg4 X4 k) 1)) a n
  have ea : accAt arg6 f6 = arg6.view.read (Elt Ideal) f6 := by
    show View.ld (arg6.view.read (Elt Ideal) f6) _ = _
    exact View.ld_unit_zero (S := S128x512) zero_offsets _ _
  rw [ea]
  refine congrArg₂ (· + ·) (congrArg₂ (· + ·) rfl (e0.trans ?_)) (e1.trans ?_)
  · refine Finset.sum_congr rfl fun r _ => ?_
    rw [first_half, colsAt_apply arg1 X1 k 0 a r ⟨7168 * 0 + 512 * k.val + r.val, by omega⟩ rfl]
    rfl
  · refine Finset.sum_congr rfl fun r _ => ?_
    rw [second_half, colsAt_apply arg1 X1 k 1 a r ⟨7168 * 1 + 512 * k.val + r.val, by omega⟩ rfl]
    rfl

/-- The accumulator after `k` trips, from a zeroed one. -/
theorem acc_loop (G6 : BufTy.Contents (Elt Ideal) arg6.view.ty) (G7 : BufTy.Contents (Elt Ideal) arg7.view.ty)
    (G8 : BufTy.Contents (Elt Ideal) arg8.view.ty) (h0 : ∀ a n, (arg6.view.read (Elt Ideal) G6 (ix2 a n) : EReal) = 0)
    (a : Fin 128) (n : Fin 512) : ∀ k : ℕ, k ≤ k0_t1_loop.trips →
    (arg6.view.read (Elt Ideal) (arg6.view.writes (Elt Ideal) G6
        (pb_k0_t1 (F := Ideal) Variants.none c none i arg1 harg1 arg2 harg2 arg3 harg3 arg4 harg4 arg5 harg5 arg6 harg6 arg7 harg7
          arg8 harg8 X1 X2 X3 X4 G6 G7 G8 k).1) (ix2 a n) : EReal)
      = accAfter (arg1.view.read (Elt Ideal) X1) (arg2.view.read (Elt Ideal) X2) (arg3.view.read (Elt Ideal) X3)
          (arg4.view.read (Elt Ideal) X4) a n k := by
  intro k
  induction k with
  | zero => intro _; exact h0 a n
  | succ k ih =>
    intro hk
    have e := pb_k0_t1_succ (F := Ideal) Variants.none c none i arg1 harg1 arg2 harg2 arg3 harg3 arg4 harg4 arg5 harg5 arg6 harg6
      arg7 harg7 arg8 harg8 X1 X2 X3 X4 G6 G7 G8 ⟨k, hk⟩
    rw [show k + 1 = (⟨k, hk⟩ : Fin k0_t1_loop.trips).val + 1 from rfl, e]
    dsimp only
    rw [trip_pieces, View.writes_append]
    rw [read_whole_store (S := S128x512) arg6.view _ zero_offsets]
    rw [tripValue_apply, ih (by omega)]
    rw [accAfter.eq_2, dif_pos (show k < k0_t1_loop.trips from hk)]

end Loop

end Cert.KernelIdeal.Hand
-- ==== Proof.Block.lean ====
/-
  What one grid point leaves in its output block: the accumulator after the loop, entry by entry.
-/
module

public import proofs.«01_k».proof.Proof.Loop
public import proofs.«01_k».proof.Proof.KernelIdealFrame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- The block a grid point leaves: every trip's sums, from zero. -/
def outBlock (X : S128x14336.Idx → Ideal .bf16) (Q : S3584x512.Idx → BitVec 8) (S M : S896x512.Idx → Ideal .bf16) :
    S128x512.Idx → Ideal .bf16 := fun y => accAfter X Q S M (y 0) (y 1) k0_t1_loop.trips

/-! ## The body, run once -/

/-- The accumulator's zeroing store. -/
abbrev zeroed : List (View.Piece (Elt Ideal) S128x512 .f32) :=
  [⟨Rect.unit (s := S128x512) ![0, 0] S128x512.size inb_S128x512_S128x512_0_0, k0_pay1 (F := Ideal)⟩]

/-- The block stored: what the accumulator reads after its zeroing and every trip. -/
theorem stored_block (c : Dev nD) (i : grid0.Coords)
    (arg1 : Memref sig .tc .vmem S128x14336 .bf16) (harg1 : arg1.IsWhole)
    (arg2 : Memref sig .tc .vmem S3584x512 .i8) (harg2 : arg2.IsWhole)
    (arg3 : Memref sig .tc .vmem S896x512 .bf16) (harg3 : arg3.IsWhole)
    (arg4 : Memref sig .tc .vmem S896x512 .bf16) (harg4 : arg4.IsWhole)
    (arg5 : Memref sig .tc .vmem S128x512 .bf16) (harg5 : arg5.IsWhole)
    (f1 : BufTy.Contents (Elt Ideal) arg1.view.ty) (f2 : BufTy.Contents (Elt Ideal) arg2.view.ty)
    (f3 : BufTy.Contents (Elt Ideal) arg3.view.ty) (f4 : BufTy.Contents (Elt Ideal) arg4.view.ty)
    (f7 : BufTy.Contents (Elt Ideal) sclM.view.ty) (f8 : BufTy.Contents (Elt Ideal) minM.view.ty) :
    k0_pay3 (accM.view.readCov
        ((pb_k0_t1 (F := Ideal) Variants.none c none i arg1 harg1 arg2 harg2 arg3 harg3 arg4 harg4 arg5 harg5 accM (Memref.isWhole_whole _)
            sclM (Memref.isWhole_whole _) minM (Memref.isWhole_whole _) f1 f2 f3 f4
            (accM.view.writes (Elt Ideal) accM.view.junk zeroed) f7 f8 k0_t1_loop.trips).1 ++ zeroed)
        (Rect.unit (s := S128x512) ![0, 0] S128x512.size inb_S128x512_S128x512_0_0).toLoadRect)
      = outBlock (arg1.view.read (Elt Ideal) f1) (arg2.view.read (Elt Ideal) f2) (arg3.view.read (Elt Ideal) f3)
          (arg4.view.read (Elt Ideal) f4) := by
  have h0 : ∀ a n, (accM.view.read (Elt Ideal) (accM.view.writes (Elt Ideal) accM.view.junk zeroed) (ix2 a n) : EReal) = 0 := by
    intro a n
    rw [read_whole_store (S := S128x512) accM.view _ zero_offsets]
    show Ideal.ofBits .f32 0x00000000#32 = _
    simp
  have hl := fun a n => acc_loop c i arg1 harg1 arg2 harg2 arg3 harg3 arg4 harg4 arg5 harg5 accM (Memref.isWhole_whole _)
    sclM (Memref.isWhole_whole _) minM (Memref.isWhole_whole _) f1 f2 f3 f4
    (accM.view.writes (Elt Ideal) accM.view.junk zeroed) f7 f8 h0 a n k0_t1_loop.trips (Nat.le_refl _)
  have hr : ∀ L : List (View.Piece (Elt Ideal) S128x512 .f32), accM.view.readCov L
        (Rect.unit (s := S128x512) ![0, 0] S128x512.size inb_S128x512_S128x512_0_0).toLoadRect
      = accM.view.read (Elt Ideal) (accM.view.writes (Elt Ideal) accM.view.junk L) := fun L =>
    View.ld_unit_zero (S := S128x512) zero_offsets inb_S128x512_S128x512_0_0 _
  rw [hr, View.writes_append]
  funext y
  have hy : y = ix2 (y 0) (y 1) := by
    funext a
    match a with
    | ⟨0, _⟩ => rfl
    | ⟨1, _⟩ => rfl
  rw [hy]
  exact hl (y 0) (y 1)

/-- The body's triple, for any continuation: from the inputs' staging buffers at any contents and the output's and the
    scratch buffers at anything, the body runs to its return and hands every buffer back, the inputs' unchanged and the output's
    at the block the trips leave. -/
theorem valueRun (c : Dev nD) (i : grid0.Coords)
    (arg1 : Memref sig .tc .vmem S128x14336 .bf16) (harg1 : arg1.IsWhole)
    (arg2 : Memref sig .tc .vmem S3584x512 .i8) (harg2 : arg2.IsWhole)
    (arg3 : Memref sig .tc .vmem S896x512 .bf16) (harg3 : arg3.IsWhole)
    (arg4 : Memref sig .tc .vmem S896x512 .bf16) (harg4 : arg4.IsWhole)
    (arg5 : Memref sig .tc .vmem S128x512 .bf16) (harg5 : arg5.IsWhole)
    (X1 : S128x14336.Idx → Elt Ideal .bf16) (X2 : S3584x512.Idx → Elt Ideal .i8) (X3 X4 : S896x512.Idx → Elt Ideal .bf16)
    (K : PUnit → sProp 𝕄) :
    iprop(owns (c : Thread nD τ) arg1 fullShare X1 ∗ owns (c : Thread nD τ) arg2 fullShare X2
        ∗ owns (c : Thread nD τ) arg3 fullShare X3 ∗ owns (c : Thread nD τ) arg4 fullShare X4
        ∗ (∃ d, owns (c : Thread nD τ) arg5 fullShare d)
        ∗ (∃ d, owns (c : Thread nD τ) accM fullShare d) ∗ (∃ d, owns (c : Thread nD τ) sclM fullShare d)
        ∗ (∃ d, owns (c : Thread nD τ) minM fullShare d)
        ∗ (iprop(owns (c : Thread nD τ) arg1 fullShare X1 ∗ owns (c : Thread nD τ) arg2 fullShare X2
              ∗ owns (c : Thread nD τ) arg3 fullShare X3 ∗ owns (c : Thread nD τ) arg4 fullShare X4
              ∗ owns (c : Thread nD τ) arg5 fullShare (outBlock X1 X2 X3 X4)
              ∗ (∃ d, owns (c : Thread nD τ) accM fullShare d) ∗ (∃ d, owns (c : Thread nD τ) sclM fullShare d)
              ∗ (∃ d, owns (c : Thread nD τ) minM fullShare d)) -∗ K ⟨⟩))
      ⊢ wp Idealize.ShloMosaic.frame (wpE (defs₀ (F := Ideal)) Variants.none c none) Set.univ
          (cc0_w2a16 i arg1 harg1 arg2 harg2 arg3 harg3 arg4 harg4 arg5 harg5 accM (Memref.isWhole_whole _)
            sclM (Memref.isWhole_whole _) minM (Memref.isWhole_whole _)) K := by
  simp only [cc0_w2a16_eq_skeleton]; unfold cc0_w2a16_skel
  unfold owns
  iintro ⟨⟨%f1, %h1, H1⟩, ⟨%f2, %h2, H2⟩, ⟨%f3, %h3, H3⟩, ⟨%f4, %h4, H4⟩, ⟨%d5, %f5, -, H5⟩, ⟨%d6, %f6, -, H6⟩,
    ⟨%d7, %f7, -, H7⟩, ⟨%d8, %f8, -, H8⟩, Hk⟩
  sl_exec
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro
    unfold valueRun.sl.v5
    rw [read_whole_store (S := S128x512) arg5.view _ zero_offsets]
    subst h1 h2 h3 h4
    exact stored_block c i arg1 harg1 arg2 harg2 arg3 harg3 arg4 harg4 arg5 harg5 f1 f2 f3 f4 f7 f8
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

end Cert.KernelIdeal.Hand
-- ==== Proof.Launch.lean ====
/-
  The idealized kernel's run over the extended reals, with its result array named.

  Every grid point leaves the output's staging buffer at the block `outBlock` of its four input blocks (Block.lean). The
  launch writes each block back to its place, and the host lines around the launch are kept as they stand: the argument `x`
  is rearranged before it, the result array is reshaped after it.
-/
module

public import proofs.«01_k».proof.Proof.KernelIdealFrame
public import proofs.«01_k».proof.Proof.Block
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- The output block of point `t`. -/
def pointBlock (c : Dev nD) (t : Fin cfg0.N) : S128x512.Idx → Ideal .bf16 :=
  outBlock (iblk m c 0 t) (iblk m c 1 t) (iblk m c 2 t) (iblk m c 3 t)

/-- The proof data: the input windows keep their blocks, the output window is left at the point's block. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => pointBlock m c t
  Φ _ := Pipeline.ΦA spec0 c
  q _ := fullShare
  owed _ := 0

theorem vA_eq (c : Dev nD) (w : Fin cfg0.W) : (vdats m 0 c).A w = V m c (Pipeline.arrRef spec0 w) := by dsimp only [vdats]

theorem vbefore_0 (c : Dev nD) (t : Fin cfg0.N) (d) : (vdats m 0 c).before 0 t d = iblk m c 0 t :=
  before0_0_of m (vdats m 0 c) (vA_eq m c 0) (fun _ => rfl) t d
theorem vbefore_1 (c : Dev nD) (t : Fin cfg0.N) (d) : (vdats m 0 c).before 1 t d = iblk m c 1 t :=
  before0_1_of m (vdats m 0 c) (vA_eq m c 1) (fun _ => rfl) t d
theorem vbefore_2 (c : Dev nD) (t : Fin cfg0.N) (d) : (vdats m 0 c).before 2 t d = iblk m c 2 t :=
  before0_2_of m (vdats m 0 c) (vA_eq m c 2) (fun _ => rfl) t d
theorem vbefore_3 (c : Dev nD) (t : Fin cfg0.N) (d) : (vdats m 0 c).before 3 t d = iblk m c 3 t :=
  before0_3_of m (vdats m 0 c) (vA_eq m c 3) (fun _ => rfl) t d

/-- What the body is called with at point `t`. -/
def vbodyPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d)))

/-- What the body returns at point `t`. -/
def vbodyPost (c : Dev nD) (t : Fin cfg0.N) : sProp 𝕄 :=
  iprop((vdats m 0 c).Φ t.castSucc ∗ (vdats m 0 c).owesAt () t.castSucc
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (pointBlock m c t))

/-- The body at the point: the invariant opened, the body's run, the invariant closed. -/
theorem vsound_body (c : Dev nD) (t : Fin cfg0.N) :
    vbodyPre m c t ⊢ wp Idealize.ShloMosaic.frame (wpE (defs₀ (F := Ideal)) Variants.none c none) Set.univ (bodyAt0 t)
      (fun _ => vbodyPost m c t) := by
  unfold vbodyPre vbodyPost bodyAt0
  simp only [vbefore_0, vbefore_1, vbefore_2, vbefore_3]
  rw [show (vdats m 0 c).Φ t.castSucc = Pipeline.ΦA spec0 c from rfl, Phi_eq]
  iintro ⟨⟨⟨H6, H7, H8⟩, Hg⟩, HO, ⟨%_, H1⟩, ⟨%_, H2⟩, ⟨%_, H3⟩, ⟨%_, H4⟩, ⟨%d5, H5⟩⟩
  iapply (valueRun c (grid0.coords t) _ _ _ _ _ _ _ _ _ _ (iblk m c 0 t) (iblk m c 1 t) (iblk m c 2 t) (iblk m c 3 t) _)
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  iintro ⟨H1, H2, H3, H4, H5, H6, H7, H8⟩
  isplitl [H6 H7 H8 Hg]
  · isplitl [H6 H7 H8]
    · isplitl [H6]; · iexact H6
      isplitl [H7]; · iexact H7
      iexact H8
    iexact Hg
  isplitl [HO]; · iexact HO
  isplitl [H1]; · iexact H1
  isplitl [H2]; · iexact H2
  isplitl [H3]; · iexact H3
  isplitl [H4]; · iexact H4
  iexact H5

/-- The library's body obligation at these data. -/
theorem vbody_obligation (c : Dev nD) :
    BodyObligation (vdats m 0 c) (defs₀ (F := Ideal)) Variants.none () Set.univ := fun t => by
  rw [bigSep_W0, bigSep_W0, defs₀_row]
  exact triple_restated (vsound_body m c t) rfl .rfl fun _ => .rfl

-- the implicit arguments are found by unifying the conclusion with this statement, which unifies only when unification
-- may unfold plain definitions in a metavariable's type
set_option backward.isDefEq.respectTransparency.types false in
/-- Every weakly fair execution terminates with every array at the write-backs of its blocks, and every other buffer at what
    the host lines after the launch leave. -/
theorem vrun_main :
    θ_run defs (onTc (τ := τ) (main (F := Ideal))) (s₀ m ρ)
      (Pipeline.FramePost cfgs (vdats m) 0 (Pipeline.afterTail₀ cfgs (vdats m) 0 (V0 m) [hostOps1])) :=
  Pipeline.θ_run_frame_around (Q' := _) cfgs (vdats m) (0 : Fin 1) launch0 defs₀ Variants.none m ρ main
    (hbody := fun c => (vbody_obligation m c).loose) (hshare := fun c => (vdats m 0 c).share_full fun _ => rfl)
    (howed := fun _ _ => rfl) (V₀ := V0 m) (opss := [hostOps1]) sfx_sub sfx_fresh sfx_keeps
    (hmain m Variants.none) (vA_eq m) (hΦ := fun _ _ => rfl)

/-! ## The result array -/

/-- The 512 columns of an array that grid point `t` works on. -/
def cols {α : Type} {R : Nat} (A : (⟨2, ![R, 8192]⟩ : Shape).Idx → α) (t : Fin 16) : (⟨2, ![R, 512]⟩ : Shape).Idx → α :=
  fun j => A (ix2 (j 0) ⟨512 * t.val + (j 1).val, by have h : (j 1).val < 512 := (j 1).isLt; omega⟩)

/-- The result array: column `n` is column `n % 512` of the block of grid point `n / 512`. -/
def outArray (X : S128x14336.Idx → Ideal .bf16) (Q : S3584x8192.Idx → BitVec 8) (S M : S896x8192.Idx → Ideal .bf16) :
    S128x8192.Idx → Ideal .bf16 := fun i =>
  have h : (i 1).val < 8192 := (i 1).isLt
  outBlock X (cols Q ⟨(i 1).val / 512, by omega⟩) (cols S ⟨(i 1).val / 512, by omega⟩) (cols M ⟨(i 1).val / 512, by omega⟩)
    (ix2 (i 0) ⟨(i 1).val % 512, by omega⟩)

theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val :=
  (by decide +kernel : ∀ t : Fin grid0.N, _)
theorem index2 : ∀ t : Fin cfg0.N, win0_2.index t (0 : Fin 2) = 0 ∧ win0_2.index t (1 : Fin 2) = t.val :=
  (by decide +kernel : ∀ t : Fin grid0.N, _)
theorem index3 : ∀ t : Fin cfg0.N, win0_3.index t (0 : Fin 2) = 0 ∧ win0_3.index t (1 : Fin 2) = t.val :=
  (by decide +kernel : ∀ t : Fin grid0.N, _)
theorem index4 : ∀ t : Fin cfg0.N, win0_4.index t (0 : Fin 2) = 0 ∧ win0_4.index t (1 : Fin 2) = t.val :=
  (by decide +kernel : ∀ t : Fin grid0.N, _)

/-- The first window's block is the whole rearranged `x`. -/
theorem iblk0_eq (c : Dev nD) (t : Fin cfg0.N) : iblk m c 0 t = V m c main_v2 := by
  obtain ⟨e0, e1⟩ := index0 t
  funext j
  unfold iblk
  rw [View.read_apply]
  show V m c main_v2 _ = V m c main_v2 j
  congr 1
  funext a
  apply Fin.ext
  match a with
  | ⟨0, _⟩ => show win0_0.index t (0 : Fin 2) * 128 + 1 * (j 0).val = (j 0).val; omega
  | ⟨1, _⟩ => show win0_0.index t (1 : Fin 2) * 14336 + 1 * (j 1).val = (j 1).val; omega

/-- The second window's block is 512 columns of the packed weights. -/
theorem iblk1_eq (c : Dev nD) (t : Fin cfg0.N) : iblk m c 1 t = cols (R := 3584) (V m c main_arg1) (t.cast N_0) := by
  obtain ⟨e0, e1⟩ := index1 t
  funext j
  unfold iblk
  rw [View.read_apply]
  show V m c main_arg1 _ = V m c main_arg1 _
  congr 1
  funext a
  apply Fin.ext
  match a with
  | ⟨0, _⟩ => show win0_1.index t (0 : Fin 2) * 3584 + 1 * (j 0).val = (j 0).val; omega
  | ⟨1, _⟩ => show win0_1.index t (1 : Fin 2) * 512 + 1 * (j 1).val = 512 * t.val + (j 1).val; omega

/-- The third window's block is 512 columns of the scales. -/
theorem iblk2_eq (c : Dev nD) (t : Fin cfg0.N) : iblk m c 2 t = cols (R := 896) (V m c main_arg2) (t.cast N_0) := by
  obtain ⟨e0, e1⟩ := index2 t
  funext j
  unfold iblk
  rw [View.read_apply]
  show V m c main_arg2 _ = V m c main_arg2 _
  congr 1
  funext a
  apply Fin.ext
  match a with
  | ⟨0, _⟩ => show win0_2.index t (0 : Fin 2) * 896 + 1 * (j 0).val = (j 0).val; omega
  | ⟨1, _⟩ => show win0_2.index t (1 : Fin 2) * 512 + 1 * (j 1).val = 512 * t.val + (j 1).val; omega

/-- The fourth window's block is 512 columns of the minima. -/
theorem iblk3_eq (c : Dev nD) (t : Fin cfg0.N) : iblk m c 3 t = cols (R := 896) (V m c main_arg3) (t.cast N_0) := by
  obtain ⟨e0, e1⟩ := index3 t
  funext j
  unfold iblk
  rw [View.read_apply]
  show V m c main_arg3 _ = V m c main_arg3 _
  congr 1
  funext a
  apply Fin.ext
  match a with
  | ⟨0, _⟩ => show win0_3.index t (0 : Fin 2) * 896 + 1 * (j 0).val = (j 0).val; omega
  | ⟨1, _⟩ => show win0_3.index t (1 : Fin 2) * 512 + 1 * (j 1).val = 512 * t.val + (j 1).val; omega

/-- The result array of the launch, over the arrays as the launch finds them. -/
def result (c : Dev nD) : S128x8192.Idx → Ideal .bf16 :=
  outArray (V m c main_v2) (V m c main_arg1) (V m c main_arg2) (V m c main_arg3)

/-- A point's block is its place of the result array. -/
theorem pointBlock_eq (c : Dev nD) (t : Fin cfg0.N) (y : S128x512.Idx) :
    pointBlock m c t y = result m c (ix2 (y 0) ⟨512 * t.val + (y 1).val, by
      have h : (y 1).val < 512 := (y 1).isLt
      have ht : t.val < 16 := (t.cast N_0).isLt
      omega⟩) := by
  have h : (y 1).val < 512 := (y 1).isLt
  have hy : y = ix2 (y 0) (y 1) := by
    funext a
    match a with
    | ⟨0, _⟩ => rfl
    | ⟨1, _⟩ => rfl
  unfold pointBlock result outArray
  rw [iblk0_eq, iblk1_eq, iblk2_eq, iblk3_eq]
  have hd : (⟨(512 * t.val + (y 1).val) / 512, by
      have ht : t.val < 16 := (t.cast N_0).isLt
      omega⟩ : Fin 16) = t.cast N_0 := Fin.ext (by show (512 * t.val + (y 1).val) / 512 = t.val; omega)
  have hm : (⟨(512 * t.val + (y 1).val) % 512, by omega⟩ : Fin 512) = y 1 :=
    Fin.ext (by show (512 * t.val + (y 1).val) % 512 = (y 1).val; omega)
  show _ = outBlock _ (cols _ ⟨(512 * t.val + (y 1).val) / 512, _⟩) (cols _ ⟨(512 * t.val + (y 1).val) / 512, _⟩)
    (cols _ ⟨(512 * t.val + (y 1).val) / 512, _⟩) (ix2 (y 0) ⟨(512 * t.val + (y 1).val) % 512, _⟩)
  rw [hd, hm]
  exact congrArg _ hy

/-- What a point writes back is its place of the result array. -/
theorem flushed_eq (c : Dev nD) (t : Fin cfg0.N) (hf : (cfg0.win 4).flush t = true) :
    (vdats m 0 c).flushed 4 t = ((cfg0.win 4).blk t).view.read (Elt Ideal) (result m c) := by
  obtain ⟨e0, e1⟩ := index4 t
  funext y
  rw [View.read_apply]
  show pointBlock m c t y = _
  rw [pointBlock_eq]
  congr 1
  funext a
  apply Fin.ext
  match a with
  | ⟨0, _⟩ => show (y 0).val = win0_4.index t (0 : Fin 2) * 128 + 1 * (y 0).val; omega
  | ⟨1, _⟩ => show 512 * t.val + (y 1).val = win0_4.index t (1 : Fin 2) * 512 + 1 * (y 1).val; omega

/-- Every entry of the result array is in some point's block. -/
theorem covered (i : S128x8192.Idx) :
    ∃ t : Fin cfg0.N, (cfg0.win 4).flush t = true ∧ i ∈ ((cfg0.win 4).blk t).view.set := by
  have h0 : (i 0).val < 128 := (i 0).isLt
  have h1 : (i 1).val < 8192 := (i 1).isLt
  let t : Fin cfg0.N := Fin.cast N_0.symm ⟨(i 1).val / 512, by omega⟩
  have ht : t.val = (i 1).val / 512 := rfl
  obtain ⟨e0, e1⟩ := index4 t
  refine ⟨t, flush0_4 t, ?_⟩
  let y : S128x512.Idx := ix2 (i 0) ⟨(i 1).val % 512, by omega⟩
  have h := ((cfg0.win 4).blk t).view.emb_mem_set y
  have hy : ((cfg0.win 4).blk t).view.emb y = i := by
    funext a
    apply Fin.ext
    match a with
    | ⟨0, _⟩ => show win0_4.index t (0 : Fin 2) * 128 + 1 * (i 0).val = (i 0).val; omega
    | ⟨1, _⟩ => show win0_4.index t (1 : Fin 2) * 512 + 1 * ((i 1).val % 512) = (i 1).val; omega
  rwa [hy] at h

/-- The result array after the launch. -/
theorem final_out (c : Dev nD) : (vdats m 0 c).arrAt 4 cfg0.N = result m c :=
  (vdats m 0 c).arrAt_eq_of_cover 4 (result m c) (flushed_eq m c) covered

/-- The reshaped result after the last host line. -/
theorem tail_v4 (c : Dev nD) :
    Pipeline.afterTail₀ cfgs (vdats m) 0 (V0 m) [hostOps1] c main_v4
      = shapeCast S128x1x8192 (result m c) shapeCasts_S128x8192_S128x1x8192 := by
  have h := (Pipeline.withArrays_arr spec0 launch0.win.arr_inj c (V0 m c) (fun w => (vdats m 0 c).arrAt w cfg0.N) 4).trans
    (final_out m c)
  unfold Pipeline.afterTail₀
  entry_read
  rw [← h]
  rfl

/-- The run, read: the result at the reshaped array, the arguments unchanged. -/
theorem run : θ_run defs (onTc (τ := τ) (main (F := Ideal))) ⟨m, fun _ => 0, ρ⟩ (fun r => ∀ c : Dev nD,
      r.2.mem ((c.tc : Thread nD τ).loc main_v4) = shapeCast S128x1x8192 (result m c) shapeCasts_S128x8192_S128x1x8192
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (tail_v4 m c),
     ((h c).2 main_arg0 (Pipeline.mem_restRefs_of main_arg0 (by decide) (by decide))).trans (W_main_arg0 m (vdats m) c),
     ((h c).1 1).trans (((vdats m 0 c).arrAt_in 1 rfl _).trans ((vA_eq m c 1).trans (V_main_arg1 m c))),
     ((h c).1 2).trans (((vdats m 0 c).arrAt_in 2 rfl _).trans ((vA_eq m c 2).trans (V_main_arg2 m c))),
     ((h c).1 3).trans (((vdats m 0 c).arrAt_in 3 rfl _).trans ((vA_eq m c 3).trans (V_main_arg3 m c)))⟩) (vrun_main m ρ)

end Cert.KernelIdeal.Hand

end
-- ==== Proof.Sums.lean ====
/-
  The mathematics both sides compute, and the reordering of its sum.

  A packed row `K` holds four weights, field `f` of it belonging to row `3584 f + K` of the weight matrix. So the product of
  `x` with the weights is four sums over the packed rows, one per field. The kernel takes the same terms in another order:
  trip by trip, 256 packed rows each, and in a trip fields 0 and 2 before fields 1 and 3.
-/
module

public import proofs.«01_k».proof.Proof.Trip
public import Mathlib.Algebra.BigOperators.Fin

@[expose] public section

noncomputable section

namespace Cert.KernelIdeal.Hand

open Cert.KernelIdeal Cert.KernelIdeal.Gen
open Idealize.ShloMosaic

/-! ## The value -/

/-- The weight of field `f` of packed row `K` in column `n`: its two-bit code times its group's scale, plus its group's
    minimum. -/
def fieldWeight (Q : S3584x8192.Idx → BitVec 8) (S M : S896x8192.Idx → Ideal .bf16) (n : Fin 8192) (f : Fin 4) (K : Fin 3584) :
    Ideal .bf16 :=
  FloatOps.addf (FloatOps.mulf (FloatOps.sitofp .bf16 (codeWord f.val (Q (ix2 K n))))
    (S (ix2 ⟨224 * f.val + K.val / 16, by omega⟩ n))) (M (ix2 ⟨224 * f.val + K.val / 16, by omega⟩ n))

/-- What field `f` of packed row `K` adds at row `i`, column `n`. -/
def term (x : S128x1x14336.Idx → Ideal .bf16) (Q : S3584x8192.Idx → BitVec 8) (S M : S896x8192.Idx → Ideal .bf16)
    (i : Fin 128) (n : Fin 8192) (f : Fin 4) (K : Fin 3584) : EReal :=
  (x (ValueIdx.ix3 i (0 : Fin 1) ⟨3584 * f.val + K.val, by omega⟩) : EReal) * (fieldWeight Q S M n f K : EReal)

/-- The four fields' sums over the packed rows, added field by field. -/
def value (x : S128x1x14336.Idx → Ideal .bf16) (Q : S3584x8192.Idx → BitVec 8) (S M : S896x8192.Idx → Ideal .bf16)
    (i : Fin 128) (n : Fin 8192) : EReal :=
  (∑ K, term x Q S M i n 0 K) + (∑ K, term x Q S M i n 1 K) + (∑ K, term x Q S M i n 2 K) + (∑ K, term x Q S M i n 3 K)

/-! ## The reordering -/

section Reorder

variable {A : Type} [AddCommMonoid A]

/-- A sum over 512 weight rows is a sum over 256 packed rows of two terms. -/
theorem sum_rows (F : Fin 512 → A) :
    ∑ r, F r = ∑ a : Fin 256, (F ⟨2 * a.val, by omega⟩ + F ⟨2 * a.val + 1, by omega⟩) := by
  rw [← (finProdFinEquiv (m := 256) (n := 2)).sum_comp F, Fintype.sum_prod_type]
  refine Finset.sum_congr rfl fun a _ => ?_
  rw [Fin.sum_univ_two]
  congr 2
  · exact Fin.ext (by simp [finProdFinEquiv])
  · exact Fin.ext (by simp [finProdFinEquiv]; omega)

/-- A sum over the packed rows, trip by trip. -/
theorem sum_trips (G : Fin 3584 → A) :
    ∑ k : Fin 14, ∑ a : Fin 256, G ⟨256 * k.val + a.val, by omega⟩ = ∑ K, G K := by
  rw [← (finProdFinEquiv (m := 14) (n := 256)).sum_comp G, Fintype.sum_prod_type]
  refine Finset.sum_congr rfl fun k _ => Finset.sum_congr rfl fun a _ => ?_
  congr 1
  exact Fin.ext (by simp [finProdFinEquiv]; omega)

/-- The kernel's order and the field order have the same sum. -/
theorem reorder (G : Fin 4 → Fin 3584 → A) :
    ∑ k : Fin 14,
        ((∑ r : Fin 512, G ⟨2 * (r.val % 2) + 0, by omega⟩ ⟨256 * k.val + r.val / 2, by omega⟩)
          + ∑ r : Fin 512, G ⟨2 * (r.val % 2) + 1, by omega⟩ ⟨256 * k.val + r.val / 2, by omega⟩)
      = (∑ K, G 0 K) + (∑ K, G 1 K) + (∑ K, G 2 K) + (∑ K, G 3 K) := by
  have hp : ∀ (p : Fin 2) (k : Fin 14),
      (∑ r : Fin 512, G ⟨2 * (r.val % 2) + p.val, by omega⟩ ⟨256 * k.val + r.val / 2, by omega⟩)
        = (∑ a : Fin 256, G ⟨p.val, by omega⟩ ⟨256 * k.val + a.val, by omega⟩)
          + ∑ a : Fin 256, G ⟨2 + p.val, by omega⟩ ⟨256 * k.val + a.val, by omega⟩ := by
    intro p k
    rw [sum_rows, Finset.sum_add_distrib]
    refine congrArg₂ (· + ·) ?_ ?_
    · refine Finset.sum_congr rfl fun a _ => ?_
      exact congrArg₂ G (Fin.ext (by show 2 * (2 * a.val % 2) + p.val = p.val; omega))
        (Fin.ext (by show 256 * k.val + 2 * a.val / 2 = 256 * k.val + a.val; omega))
    · refine Finset.sum_congr rfl fun a _ => ?_
      exact congrArg₂ G (Fin.ext (by show 2 * ((2 * a.val + 1) % 2) + p.val = 2 + p.val; omega))
        (Fin.ext (by show 256 * k.val + (2 * a.val + 1) / 2 = 256 * k.val + a.val; omega))
  have h0 := fun k => hp 0 k
  have h1 := fun k => hp 1 k
  refine (Finset.sum_congr rfl fun k _ => congrArg₂ (· + ·) (h0 k) (h1 k)).trans ?_
  simp only [Finset.sum_add_distrib]
  refine (congrArg₂ (· + ·) (congrArg₂ (· + ·) (sum_trips (G 0)) (sum_trips (G 2)))
    (congrArg₂ (· + ·) (sum_trips (G 1)) (sum_trips (G 3)))).trans ?_
  show ((∑ K, G 0 K) + ∑ K, G 2 K) + ((∑ K, G 1 K) + ∑ K, G 3 K) = _
  rw [add_add_add_comm, ← add_assoc]

end Reorder

/-! ## The kernel's order of it -/

theorem trips_eq : k0_t1_loop.trips = 14 := by decide

/-- The accumulator after `k` trips is the sum of what the trips add. -/
theorem accAfter_sum (X : S128x14336.Idx → Ideal .bf16) (Q : S3584x512.Idx → BitVec 8) (S M : S896x512.Idx → Ideal .bf16)
    (i : Fin 128) (n : Fin 512) : ∀ (k : ℕ) (hk : k ≤ k0_t1_loop.trips),
    accAfter X Q S M i n k
      = ∑ j : Fin k, (halfSum X Q S M ⟨j.val, by omega⟩ 0 i n + halfSum X Q S M ⟨j.val, by omega⟩ 1 i n)
  | 0, _ => by rw [accAfter.eq_1]; simp
  | k + 1, hk => by
    rw [accAfter.eq_2, dif_pos (show k < k0_t1_loop.trips by omega), accAfter_sum X Q S M i n k (by omega),
      Fin.sum_univ_castSucc, add_assoc]
    rfl

/-- The accumulator after the loop, reordered: for a block that is 512 columns of the arrays and an `x` rearranged so that
    each half's columns stand in trip order. -/
theorem accAfter_value (x : S128x1x14336.Idx → Ideal .bf16) (Q : S3584x8192.Idx → BitVec 8) (S M : S896x8192.Idx → Ideal .bf16)
    (X : S128x14336.Idx → Ideal .bf16) (Qt : S3584x512.Idx → BitVec 8) (St Mt : S896x512.Idx → Ideal .bf16)
    (i : Fin 128) (n : Fin 8192) (nt : Fin 512)
    (hX : ∀ C : Fin 14336, X (ix2 i C)
      = x (ValueIdx.ix3 i (0 : Fin 1) ⟨C.val % 2 * 7168 + C.val / 7168 * 3584 + C.val % 7168 / 2, by omega⟩))
    (hQ : ∀ K, Qt (ix2 K nt) = Q (ix2 K n)) (hS : ∀ g, St (ix2 g nt) = S (ix2 g n)) (hM : ∀ g, Mt (ix2 g nt) = M (ix2 g n)) :
    accAfter X Qt St Mt i nt k0_t1_loop.trips = value x Q S M i n := by
  have hh : ∀ (k : Fin 14) (p : Fin 2), halfSum X Qt St Mt ⟨k.val, by rw [trips_eq]; exact k.isLt⟩ p i nt
      = ∑ r : Fin 512, term x Q S M i n ⟨2 * (r.val % 2) + p.val, by omega⟩ ⟨256 * k.val + r.val / 2, by omega⟩ := by
    intro k p
    unfold halfSum
    refine Finset.sum_congr rfl fun r _ => ?_
    unfold term
    rw [hX]
    congr 1
    · congr 2
      exact Fin.ext (by
        show (7168 * p.val + 512 * k.val + r.val) % 2 * 7168 + (7168 * p.val + 512 * k.val + r.val) / 7168 * 3584
          + (7168 * p.val + 512 * k.val + r.val) % 7168 / 2 = 3584 * (2 * (r.val % 2) + p.val) + (256 * k.val + r.val / 2)
        omega)
    · unfold weight fieldWeight
      rw [hQ, hS, hM]
      have hg : 224 * (2 * (r.val % 2) + p.val) + 16 * k.val + r.val / 32
          = 224 * (2 * (r.val % 2) + p.val) + (256 * k.val + r.val / 2) / 16 := by omega
      have hg' : (⟨224 * (2 * (r.val % 2) + p.val) + 16 * k.val + r.val / 32, by omega⟩ : Fin 896)
          = ⟨224 * (2 * (r.val % 2) + p.val) + (256 * k.val + r.val / 2) / 16, by omega⟩ := Fin.ext hg
      exact congrArg (fun g : Fin 896 => FloatOps.addf (FloatOps.mulf (FloatOps.sitofp .bf16
        (codeWord (2 * (r.val % 2) + p.val) (Q (ix2 ⟨256 * k.val + r.val / 2, by omega⟩ n)))) (S (ix2 g n))) (M (ix2 g n))) hg'
  rw [accAfter_sum X Qt St Mt i nt k0_t1_loop.trips le_rfl]
  have e : ∀ (N : ℕ) (hN : N = 14) (hN' : N ≤ k0_t1_loop.trips),
      (∑ j : Fin N, (halfSum X Qt St Mt ⟨j.val, by omega⟩ 0 i nt + halfSum X Qt St Mt ⟨j.val, by omega⟩ 1 i nt))
        = value x Q S M i n := by
    intro N hN hN'
    subst hN
    rw [Finset.sum_congr rfl fun k _ => congrArg₂ (· + ·) (hh k 0) (hh k 1)]
    exact reorder (term x Q S M i n)
  exact e _ trips_eq le_rfl

end Cert.KernelIdeal.Hand

end
-- ==== Proof.Value.lean ====
/-
  The idealized kernel's result, in the arguments.

  The host's rearrangement of `x` is read entry by entry; with it the result array's entry at row `i`, column `n` is the
  value of Sums.lean, and the reshape after the launch keeps every entry.
-/
module

public import proofs.«01_k».proof.Proof.Launch
public import proofs.«01_k».proof.Proof.Sums

@[expose] public section

noncomputable section

namespace Cert.KernelIdeal.Hand

open Cert.KernelIdeal Cert.KernelIdeal.Gen
open Idealize.ShloMosaic Idealize.ShloMosaic.TcCoe Idealize.ShloMosaic.Tactic

/-- The rearranged `x`: its columns split in two halves of two fields, the fields of a half interleaved. -/
def rearranged (x : S128x1x14336.Idx → Ideal .bf16) : S128x14336.Idx → Ideal .bf16 :=
  shapeCast S128x14336 (transpose S128x2x3584x2 [0, 2, 3, 1] (shapeCast S128x2x2x3584 x shapeCasts_S128x1x14336_S128x2x2x3584)
    transposes_S128x2x2x3584_S128x2x3584x2_0_2_3_1) shapeCasts_S128x2x3584x2_S128x14336

/-- Column `C` of the rearranged `x` is a column of `x`: field `2 (C % 2) + C / 7168` of packed row `C % 7168 / 2`. -/
theorem rearranged_apply (x : S128x1x14336.Idx → Ideal .bf16) (i : Fin 128) (C : Fin 14336) :
    rearranged x (ix2 i C)
      = x (ValueIdx.ix3 i (0 : Fin 1) ⟨C.val % 2 * 7168 + C.val / 7168 * 3584 + C.val % 7168 / 2, by omega⟩) := by
  unfold rearranged
  refine (shapeCast_apply _ _ _ (ValueIdx.ix4 i (⟨C.val / 7168, by omega⟩ : Fin 2) (⟨C.val % 7168 / 2, by omega⟩ : Fin 3584)
    (⟨C.val % 2, by omega⟩ : Fin 2)) ?_).trans ((transpose_apply _ _ _ _ (ValueIdx.ix4 i (⟨C.val % 2, by omega⟩ : Fin 2)
      (⟨C.val / 7168, by omega⟩ : Fin 2) (⟨C.val % 7168 / 2, by omega⟩ : Fin 3584)) ?_).trans (shapeCast_apply _ _ _ _ ?_))
  · rewrite [Shape.rowMajor_val_four, Shape.rowMajor_val_two]
    show ((i.val * 2 + C.val / 7168) * 3584 + C.val % 7168 / 2) * 2 + C.val % 2 = i.val * 14336 + C.val
    omega
  · intro b
    match b with
    | ⟨0, _⟩ => rfl
    | ⟨1, _⟩ => rfl
    | ⟨2, _⟩ => rfl
    | ⟨3, _⟩ => rfl
  · rewrite [Shape.rowMajor_val_four, Shape.rowMajor_val_three]
    show (i.val * 1 + 0) * 14336 + (C.val % 2 * 7168 + C.val / 7168 * 3584 + C.val % 7168 / 2)
      = ((i.val * 2 + C.val % 2) * 2 + C.val / 7168) * 3584 + C.val % 7168 / 2
    omega

variable (m : (ℓ : Loc nD τ sig) → Buf (Elt Ideal) ℓ) (ρ : Dev nD → PrngReg)

/-- The launch's first operand is the rearranged argument. -/
theorem x_array (c : Dev nD) : V m c main_v2 = rearranged (m ((c.tc : Thread nD τ).loc main_arg0)) := by
  unfold V V0
  simp only [hostOps0, List.flatten_cons, List.flatten_nil, List.append_nil]
  after_results
  rfl

/-- The result array, entry by entry. -/
theorem outArray_value (x : S128x1x14336.Idx → Ideal .bf16) (Q : S3584x8192.Idx → BitVec 8) (S M : S896x8192.Idx → Ideal .bf16)
    (i : Fin 128) (n : Fin 8192) : outArray (rearranged x) Q S M (ix2 i n) = value x Q S M i n := by
  have hn : (⟨512 * (n.val / 512) + n.val % 512, by omega⟩ : Fin 8192) = n := Fin.ext (by
    show 512 * (n.val / 512) + n.val % 512 = n.val; omega)
  refine accAfter_value x Q S M (rearranged x) (cols (R := 3584) Q ⟨n.val / 512, by omega⟩)
    (cols (R := 896) S ⟨n.val / 512, by omega⟩) (cols (R := 896) M ⟨n.val / 512, by omega⟩) i n ⟨n.val % 512, by omega⟩
    (rearranged_apply x i) (fun K => ?_) (fun g => ?_) (fun g => ?_)
  · exact congrArg (fun j => Q (ix2 K j)) hn
  · exact congrArg (fun j => S (ix2 g j)) hn
  · exact congrArg (fun j => M (ix2 g j)) hn

/-- The kernel's result: at (b, 0, n) the value of row `b`, column `n`. -/
def resultOf (x : S128x1x14336.Idx → Ideal .bf16) (Q : S3584x8192.Idx → BitVec 8) (S M : S896x8192.Idx → Ideal .bf16) :
    S128x1x8192.Idx → Ideal .bf16 := fun j => value x Q S M (j 0) (j 2)

/-- The reshaped result array is it. -/
theorem reshaped_result (c : Dev nD) :
    shapeCast S128x1x8192 (result m c) shapeCasts_S128x8192_S128x1x8192
      = resultOf (m ((c.tc : Thread nD τ).loc main_arg0)) (m ((c.tc : Thread nD τ).loc main_arg1))
          (m ((c.tc : Thread nD τ).loc main_arg2)) (m ((c.tc : Thread nD τ).loc main_arg3)) := by
  funext j
  have h1 : (j 1).val < 1 := (j 1).isLt
  refine (shapeCast_apply _ _ j (ix2 (j 0) (j 2)) ?_).trans ?_
  · rewrite [Shape.rowMajor_val_two, Shape.rowMajor_val_three]
    show (j 0).val * 8192 + (j 2).val = ((j 0).val * 1 + (j 1).val) * 8192 + (j 2).val
    omega
  · unfold result
    rw [x_array, V_main_arg1, V_main_arg2, V_main_arg3]
    exact outArray_value _ _ _ _ (j 0) (j 2)

/-- The idealized kernel's run: its result at the value of its arguments, its arguments unchanged. -/
theorem run_value : θ_run defs (onTc (τ := τ) (main (F := Ideal))) ⟨m, fun _ => 0, ρ⟩ (fun r => ∀ c : Dev nD,
      r.2.mem ((c.tc : Thread nD τ).loc main_v4)
        = resultOf (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (reshaped_result m c), (h c).2⟩) (run m ρ)

end Cert.KernelIdeal.Hand

end
-- ==== Proof.Reference.lean ====
/-
  The reference's result, entry by entry: the same value as the kernel's (Sums.lean).

  The reference unpacks each of the four fields for the whole weight matrix, repeats the field's scales and minima over their
  16 rows, multiplies its quarter of `x` with the field's weights and adds the four products.
-/
module

public import proofs.«01_k».proof.Proof.Gen.ReferenceIdeal.Run
public import proofs.«01_k».proof.Proof.Gen.ReferenceIdeal.Read
public import proofs.«01_k».proof.Proof.Sums

@[expose] public section

noncomputable section

namespace Cert.ReferenceIdeal.Hand

open Cert.ReferenceIdeal Cert.ReferenceIdeal.Gen Cert.ReferenceIdeal.Read
open Idealize.ShloMosaic
open Cert.KernelIdeal.Hand (codeWord fieldWeight term value)

/-! ## The two-bit codes -/

theorem code0 (b : BitVec 8) : IntOp.andi (IntOp.shrsi .host (b.setWidth 32) 0#32) 3#32 = codeWord 0 b := by
  revert b; decide +kernel
theorem code1 (b : BitVec 8) : IntOp.andi (IntOp.shrsi .host (b.setWidth 32) 2#32) 3#32 = codeWord 1 b := by
  revert b; decide +kernel
theorem code2 (b : BitVec 8) : IntOp.andi (IntOp.shrsi .host (b.setWidth 32) 4#32) 3#32 = codeWord 2 b := by
  revert b; decide +kernel
theorem code3 (b : BitVec 8) : IntOp.andi (IntOp.shrsi .host (b.setWidth 32) 6#32) 3#32 = codeWord 3 b := by
  revert b; decide +kernel

/-! ## The fields' weights -/

variable (x : S128x1x14336.Idx → Ideal .bf16) (Q : S3584x8192.Idx → BitVec 8) (S M : S896x8192.Idx → Ideal .bf16)

/-- The scales of field 0, repeated over their 16 rows. -/
theorem scale0 (K : Fin 3584) (n : Fin 8192) :
    val_main_v8 (F := Ideal) S (ix2 K n) = S (ix2 ⟨224 * 0 + K.val / 16, by omega⟩ n) := by
  rw [val_main_v8_apply, val_main_v7_apply, val_main_v6_apply]
  congr 1
  funext a
  match a with
  | ⟨0, _⟩ => exact Fin.ext (by
      show (K.val * 8192 + n.val) / 131072 = 224 * 0 + K.val / 16; omega)
  | ⟨1, _⟩ => exact Fin.ext (by show (K.val * 8192 + n.val) % 8192 = n.val; omega)

/-- The minima of field 0, repeated over their 16 rows. -/
theorem min0 (K : Fin 3584) (n : Fin 8192) :
    val_main_v11 (F := Ideal) M (ix2 K n) = M (ix2 ⟨224 * 0 + K.val / 16, by omega⟩ n) := by
  rw [val_main_v11_apply, val_main_v10_apply, val_main_v9_apply]
  congr 1
  funext a
  match a with
  | ⟨0, _⟩ => exact Fin.ext (by
      show (K.val * 8192 + n.val) / 131072 = 224 * 0 + K.val / 16; omega)
  | ⟨1, _⟩ => exact Fin.ext (by show (K.val * 8192 + n.val) % 8192 = n.val; omega)

/-- The weights of field 0. -/
theorem weight0 (K : Fin 3584) (n : Fin 8192) :
    val_main_v13 (F := Ideal) Q S M (ix2 K n) = fieldWeight Q S M n 0 K := by
  rw [val_main_v13_apply, val_main_v12_apply, val_main_v5_apply, val_main_v4_apply, val_main_v2_apply, val_main_v0_apply, val_main_v1_apply, val_main_v3_apply,
    val_main_c_apply, val_main_c_0_apply, code0, scale0, min0]
  rfl

/-- The product of field 0. -/
theorem sum0 (i : S128x1x8192.Idx) :
    val_main_v15 (F := Ideal) x Q S M i = ∑ K : Fin 3584, term x Q S M (i 0) (i 2) 0 K := by
  rw [val_main_v15_apply]
  refine Finset.sum_congr rfl fun K _ => ?_
  have hr : ridx_main_v15 i K = ix2 K (i 2) := by
    funext a
    match a with
    | ⟨0, _⟩ => rfl
    | ⟨1, _⟩ => rfl
  have hl : idx_main_v14 (lidx_main_v15 i K) = ValueIdx.ix3 (i 0) (0 : Fin 1) ⟨3584 * 0 + K.val, by omega⟩ := by
    have h1 : (i 1).val < 1 := (i 1).isLt
    funext a
    match a with
    | ⟨0, _⟩ => rfl
    | ⟨1, _⟩ => exact Fin.ext (by show (i 1).val = 0; omega)
    | ⟨2, _⟩ => exact Fin.ext (by show K.val = 3584 * 0 + K.val; omega)
  rw [val_main_v14_apply]
  exact congrArg₂ (fun a b : EReal => a * b) (congrArg x hl)
    ((congrArg (val_main_v13 (F := Ideal) Q S M) hr).trans (weight0 Q S M K (i 2)))

/-- The scales of field 1, repeated over their 16 rows. -/
theorem scale1 (K : Fin 3584) (n : Fin 8192) :
    val_main_v24 (F := Ideal) S (ix2 K n) = S (ix2 ⟨224 * 1 + K.val / 16, by omega⟩ n) := by
  rw [val_main_v24_apply, val_main_v23_apply, val_main_v22_apply]
  congr 1
  funext a
  match a with
  | ⟨0, _⟩ => exact Fin.ext (by
      show 224 + (K.val * 8192 + n.val) / 131072 = 224 * 1 + K.val / 16; omega)
  | ⟨1, _⟩ => exact Fin.ext (by show (K.val * 8192 + n.val) % 8192 = n.val; omega)

/-- The minima of field 1, repeated over their 16 rows. -/
theorem min1 (K : Fin 3584) (n : Fin 8192) :
    val_main_v27 (F := Ideal) M (ix2 K n) = M (ix2 ⟨224 * 1 + K.val / 16, by omega⟩ n) := by
  rw [val_main_v27_apply, val_main_v26_apply, val_main_v25_apply]
  congr 1
  funext a
  match a with
  | ⟨0, _⟩ => exact Fin.ext (by
      show 224 + (K.val * 8192 + n.val) / 131072 = 224 * 1 + K.val / 16; omega)
  | ⟨1, _⟩ => exact Fin.ext (by show (K.val * 8192 + n.val) % 8192 = n.val; omega)

/-- The weights of field 1. -/
theorem weight1 (K : Fin 3584) (n : Fin 8192) :
    val_main_v29 (F := Ideal) Q S M (ix2 K n) = fieldWeight Q S M n 1 K := by
  rw [val_main_v29_apply, val_main_v28_apply, val_main_v21_apply, val_main_v20_apply, val_main_v18_apply, val_main_v16_apply, val_main_v17_apply, val_main_v19_apply,
    val_main_c_1_apply, val_main_c_2_apply, code1, scale1, min1]
  rfl

/-- The product of field 1. -/
theorem sum1 (i : S128x1x8192.Idx) :
    val_main_v31 (F := Ideal) x Q S M i = ∑ K : Fin 3584, term x Q S M (i 0) (i 2) 1 K := by
  rw [val_main_v31_apply]
  refine Finset.sum_congr rfl fun K _ => ?_
  have hr : ridx_main_v31 i K = ix2 K (i 2) := by
    funext a
    match a with
    | ⟨0, _⟩ => rfl
    | ⟨1, _⟩ => rfl
  have hl : idx_main_v30 (lidx_main_v31 i K) = ValueIdx.ix3 (i 0) (0 : Fin 1) ⟨3584 * 1 + K.val, by omega⟩ := by
    have h1 : (i 1).val < 1 := (i 1).isLt
    funext a
    match a with
    | ⟨0, _⟩ => rfl
    | ⟨1, _⟩ => exact Fin.ext (by show (i 1).val = 0; omega)
    | ⟨2, _⟩ => exact Fin.ext (by show 3584 + K.val = 3584 * 1 + K.val; omega)
  rw [val_main_v30_apply]
  exact congrArg₂ (fun a b : EReal => a * b) (congrArg x hl)
    ((congrArg (val_main_v29 (F := Ideal) Q S M) hr).trans (weight1 Q S M K (i 2)))

/-- The scales of field 2, repeated over their 16 rows. -/
theorem scale2 (K : Fin 3584) (n : Fin 8192) :
    val_main_v40 (F := Ideal) S (ix2 K n) = S (ix2 ⟨224 * 2 + K.val / 16, by omega⟩ n) := by
  rw [val_main_v40_apply, val_main_v39_apply, val_main_v38_apply]
  congr 1
  funext a
  match a with
  | ⟨0, _⟩ => exact Fin.ext (by
      show 448 + (K.val * 8192 + n.val) / 131072 = 224 * 2 + K.val / 16; omega)
  | ⟨1, _⟩ => exact Fin.ext (by show (K.val * 8192 + n.val) % 8192 = n.val; omega)

/-- The minima of field 2, repeated over their 16 rows. -/
theorem min2 (K : Fin 3584) (n : Fin 8192) :
    val_main_v43 (F := Ideal) M (ix2 K n) = M (ix2 ⟨224 * 2 + K.val / 16, by omega⟩ n) := by
  rw [val_main_v43_apply, val_main_v42_apply, val_main_v41_apply]
  congr 1
  funext a
  match a with
  | ⟨0, _⟩ => exact Fin.ext (by
      show 448 + (K.val * 8192 + n.val) / 131072 = 224 * 2 + K.val / 16; omega)
  | ⟨1, _⟩ => exact Fin.ext (by show (K.val * 8192 + n.val) % 8192 = n.val; omega)

/-- The weights of field 2. -/
theorem weight2 (K : Fin 3584) (n : Fin 8192) :
    val_main_v45 (F := Ideal) Q S M (ix2 K n) = fieldWeight Q S M n 2 K := by
  rw [val_main_v45_apply, val_main_v44_apply, val_main_v37_apply, val_main_v36_apply, val_main_v34_apply, val_main_v32_apply, val_main_v33_apply, val_main_v35_apply,
    val_main_c_3_apply, val_main_c_4_apply, code2, scale2, min2]
  rfl

/-- The product of field 2. -/
theorem sum2 (i : S128x1x8192.Idx) :
    val_main_v47 (F := Ideal) x Q S M i = ∑ K : Fin 3584, term x Q S M (i 0) (i 2) 2 K := by
  rw [val_main_v47_apply]
  refine Finset.sum_congr rfl fun K _ => ?_
  have hr : ridx_main_v47 i K = ix2 K (i 2) := by
    funext a
    match a with
    | ⟨0, _⟩ => rfl
    | ⟨1, _⟩ => rfl
  have hl : idx_main_v46 (lidx_main_v47 i K) = ValueIdx.ix3 (i 0) (0 : Fin 1) ⟨3584 * 2 + K.val, by omega⟩ := by
    have h1 : (i 1).val < 1 := (i 1).isLt
    funext a
    match a with
    | ⟨0, _⟩ => rfl
    | ⟨1, _⟩ => exact Fin.ext (by show (i 1).val = 0; omega)
    | ⟨2, _⟩ => exact Fin.ext (by show 7168 + K.val = 3584 * 2 + K.val; omega)
  rw [val_main_v46_apply]
  exact congrArg₂ (fun a b : EReal => a * b) (congrArg x hl)
    ((congrArg (val_main_v45 (F := Ideal) Q S M) hr).trans (weight2 Q S M K (i 2)))

/-- The scales of field 3, repeated over their 16 rows. -/
theorem scale3 (K : Fin 3584) (n : Fin 8192) :
    val_main_v56 (F := Ideal) S (ix2 K n) = S (ix2 ⟨224 * 3 + K.val / 16, by omega⟩ n) := by
  rw [val_main_v56_apply, val_main_v55_apply, val_main_v54_apply]
  congr 1
  funext a
  match a with
  | ⟨0, _⟩ => exact Fin.ext (by
      show 672 + (K.val * 8192 + n.val) / 131072 = 224 * 3 + K.val / 16; omega)
  | ⟨1, _⟩ => exact Fin.ext (by show (K.val * 8192 + n.val) % 8192 = n.val; omega)

/-- The minima of field 3, repeated over their 16 rows. -/
theorem min3 (K : Fin 3584) (n : Fin 8192) :
    val_main_v59 (F := Ideal) M (ix2 K n) = M (ix2 ⟨224 * 3 + K.val / 16, by omega⟩ n) := by
  rw [val_main_v59_apply, val_main_v58_apply, val_main_v57_apply]
  congr 1
  funext a
  match a with
  | ⟨0, _⟩ => exact Fin.ext (by
      show 672 + (K.val * 8192 + n.val) / 131072 = 224 * 3 + K.val / 16; omega)
  | ⟨1, _⟩ => exact Fin.ext (by show (K.val * 8192 + n.val) % 8192 = n.val; omega)

/-- The weights of field 3. -/
theorem weight3 (K : Fin 3584) (n : Fin 8192) :
    val_main_v61 (F := Ideal) Q S M (ix2 K n) = fieldWeight Q S M n 3 K := by
  rw [val_main_v61_apply, val_main_v60_apply, val_main_v53_apply, val_main_v52_apply, val_main_v50_apply, val_main_v48_apply, val_main_v49_apply, val_main_v51_apply,
    val_main_c_5_apply, val_main_c_6_apply, code3, scale3, min3]
  rfl

/-- The product of field 3. -/
theorem sum3 (i : S128x1x8192.Idx) :
    val_main_v63 (F := Ideal) x Q S M i = ∑ K : Fin 3584, term x Q S M (i 0) (i 2) 3 K := by
  rw [val_main_v63_apply]
  refine Finset.sum_congr rfl fun K _ => ?_
  have hr : ridx_main_v63 i K = ix2 K (i 2) := by
    funext a
    match a with
    | ⟨0, _⟩ => rfl
    | ⟨1, _⟩ => rfl
  have hl : idx_main_v62 (lidx_main_v63 i K) = ValueIdx.ix3 (i 0) (0 : Fin 1) ⟨3584 * 3 + K.val, by omega⟩ := by
    have h1 : (i 1).val < 1 := (i 1).isLt
    funext a
    match a with
    | ⟨0, _⟩ => rfl
    | ⟨1, _⟩ => exact Fin.ext (by show (i 1).val = 0; omega)
    | ⟨2, _⟩ => exact Fin.ext (by show 10752 + K.val = 3584 * 3 + K.val; omega)
  rw [val_main_v62_apply]
  exact congrArg₂ (fun a b : EReal => a * b) (congrArg x hl)
    ((congrArg (val_main_v61 (F := Ideal) Q S M) hr).trans (weight3 Q S M K (i 2)))

/-- The reference's result at an index. -/
theorem result_apply (i : S128x1x8192.Idx) : val_main_v67 (F := Ideal) x Q S M i = value x Q S M (i 0) (i 2) := by
  rw [val_main_v67_apply, val_main_v66_apply, val_main_v65_apply, val_main_v64_apply, sum0, sum1, sum2, sum3]
  rfl

end Cert.ReferenceIdeal.Hand

end
-- ==== Proof.Algebra.lean ====
/-
  The value claim: over the extended reals the idealized kernel and the reference end with the same array.

  Both are read as the value of Sums.lean of the same four arguments: the kernel by Value.lean, the reference by
  Reference.lean.
-/
module

public import proofs.«01_k».proof.Defs
public import proofs.«01_k».proof.Proof.Value
public import proofs.«01_k».proof.Proof.Reference

@[expose] public section

noncomputable section

open Idealize.ShloMosaic Idealize.SL.Sem

namespace Cert.Proof

/-- The reference's result array is the kernel's, of the same arguments. -/
theorem reference_array (x : Cert.ReferenceIdeal.S128x1x14336.Idx → Ideal .bf16) (Q : Cert.ReferenceIdeal.S3584x8192.Idx → BitVec 8)
    (S M : Cert.ReferenceIdeal.S896x8192.Idx → Ideal .bf16) :
    Cert.ReferenceIdeal.Read.val_main_v67 (F := Ideal) x Q S M = Cert.KernelIdeal.Hand.resultOf x Q S M :=
  funext fun i => Cert.ReferenceIdeal.Hand.result_apply x Q S M i

theorem algebraic : Cert.algebraic_KernelIdeal_ReferenceIdeal := fun m g m' g' _ hargs =>
  ⟨fun c => Cert.KernelIdeal.Hand.resultOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run_value m g,
    (θ_run Cert.ReferenceIdeal.defs _ _).mono (fun r h c => ⟨by
        obtain ⟨e0, e1, e2, e3⟩ := hargs c
        refine (h c).1.trans ((Cert.ReferenceIdeal.Read.val_main_v67_eq (F := Ideal) _ _ _ _).trans ?_)
        refine (reference_array _ _ _ _).trans ?_
        rw [e0, e1, e2, e3], (h c).2⟩)
      (Cert.ReferenceIdeal.Value.run (F := Ideal) m' g')⟩

end Cert.Proof

end
-- ==== Proof.lean ====
/-
  The proof of the claims about the quantized linear layer: the kernel runs and leaves its arguments alone, so does the
  idealized kernel and so does the reference; the idealized kernel is the kernel with its packed words read as pairs; and
  over the extended reals the idealized kernel and the reference compute the same array.
-/
module

public import proofs.«01_k».proof.Defs
public import proofs.«01_k».proof.Proof.Claims
public import proofs.«01_k».proof.Proof.Algebra

@[expose] public section

noncomputable section

namespace Cert.Proof

theorem claim : Cert.Claim :=
  ⟨Cert.Kernel.Gen.facts, Cert.KernelIdeal.Gen.facts, Cert.ReferenceIdeal.Gen.facts, frame_p, frame_pi, frame_ri, preserves,
    algebraic⟩

end Cert.Proof

end
